-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "neg" .f32 0xE0AD78EC#32 ⊥

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_in_range : Cert.Pre_in_range.Facts) (hPre_as_drawn : Cert.Pre_as_drawn.Facts),
    quiescent_Kernel (hKernel := hKernel) (hPre_in_range := hPre_in_range)
    ∧ quiescent_KernelIdeal (hKernelIdeal := hKernelIdeal) (hPre_in_range := hPre_in_range)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S128x1 : Shape := ⟨2, ![128, 1]⟩
abbrev S1x128x512 : Shape := ⟨3, ![1, 128, 512]⟩
abbrev S128x256x512 : Shape := ⟨3, ![128, 256, 512]⟩
abbrev S128x128x512 : Shape := ⟨3, ![128, 128, 512]⟩
abbrev S128x64x512 : Shape := ⟨3, ![128, 64, 512]⟩
abbrev S128x32 : Shape := ⟨2, ![128, 32]⟩
abbrev S128x256 : Shape := ⟨2, ![128, 256]⟩
abbrev S128x128 : Shape := ⟨2, ![128, 128]⟩
abbrev S128x64 : Shape := ⟨2, ![128, 64]⟩
abbrev S128x128x3128 : Shape := ⟨3, ![128, 128, 3128]⟩
abbrev S3000x512 : Shape := ⟨2, ![3000, 512]⟩
abbrev S512x1024 : Shape := ⟨2, ![512, 1024]⟩
abbrev S512 : Shape := ⟨1, ![512]⟩
abbrev S1x512 : Shape := ⟨2, ![1, 512]⟩
abbrev S512x512 : Shape := ⟨2, ![512, 512]⟩
abbrev S3000 : Shape := ⟨1, ![3000]⟩
abbrev S1536x2080 : Shape := ⟨2, ![1536, 2080]⟩
abbrev S1536x512 : Shape := ⟨2, ![1536, 512]⟩
abbrev S1536 : Shape := ⟨1, ![1536]⟩
abbrev S_ : Shape := ⟨0, ![]⟩
abbrev S128 : Shape := ⟨1, ![128]⟩

class Facts : Prop where
  bcast_S_S128x128 : S_.BroadcastsInDim S128x128 (![] : Fin 0 → Fin S128x128.rank)
  bcast_S128x128_S128x128x3128_0_1 : S128x128.BroadcastsInDim S128x128x3128 (![0, 1] : Fin 2 → Fin S128x128x3128.rank)
  bcast_S_S128x1 : S_.BroadcastsInDim S128x1 (![] : Fin 0 → Fin S128x1.rank)
  bcast_S_S128x256 : S_.BroadcastsInDim S128x256 (![] : Fin 0 → Fin S128x256.rank)
  reducesTo_S128x256_S128_d1 : S128x256.ReducesTo [1] S128
  h_S_ : 0 < S_.numel
  reducesTo_S128x128_S128_d1 : S128x128.ReducesTo [1] S128
  bcast_S_S128x64 : S_.BroadcastsInDim S128x64 (![] : Fin 0 → Fin S128x64.rank)
  reducesTo_S128x64_S128_d1 : S128x64.ReducesTo [1] S128
  bcast_S_S1x128x512 : S_.BroadcastsInDim S1x128x512 (![] : Fin 0 → Fin S1x128x512.rank)
  bcast_S_S1x512 : S_.BroadcastsInDim S1x512 (![] : Fin 0 → Fin S1x512.rank)
  bcast_S_S3000x512 : S_.BroadcastsInDim S3000x512 (![] : Fin 0 → Fin S3000x512.rank)
  bcast_S_S3000 : S_.BroadcastsInDim S3000 (![] : Fin 0 → Fin S3000.rank)

variable [Facts]

def fn_part2 {F : FTy → Type} [FloatOps F] (main_v13 : IVec S128x1 1) (main_v16 : IVec S128 1) (main_v19 : IVec S128 1) (main_v22 : IVec S128 1) (main_v24 : IVec S128x128x3128 1) (main_v27 : IVec S1x128x512 1) (main_v30 : IVec S1x512 1) (main_v33 : IVec S3000x512 1) (main_v34 : FVec F S3000 .f32) : IVec S128x1 1 × IVec S128 1 × IVec S128 1 × IVec S128 1 × IVec S128x128x3128 1 × IVec S1x128x512 1 × IVec S1x512 1 × IVec S3000x512 1 × IVec S3000 1 :=
  let main_cst_11 : FVec F S_ .f32 := constant S_ .f32 0x7F800000#32
  let main_v35 : FVec F S3000 .f32 := broadcastInDim S3000 ![] bcast_S_S3000 main_cst_11
  let main_v36 : IVec S3000 1 := cmpf .olt main_v34 main_v35
  (main_v13, main_v16, main_v19, main_v22, main_v24, main_v27, main_v30, main_v33, main_v36)

def fn_part1 {F : FTy → Type} [FloatOps F] (main_arg1 : FVec F S1x128x512 .f32) (main_arg7 : IVec S128x128 32) (main_arg8 : IVec S128x64 32) (main_arg10 : FVec F S128x128x3128 .f32) (main_arg14 : FVec F S1x512 .f32) (main_arg17 : FVec F S3000x512 .f32) (main_arg18 : FVec F S3000 .f32) (main_v8 : IVec S128x128x3128 1) (main_v13 : IVec S128x1 1) (main_v16 : IVec S128 1) (main_c_5 : IVec S_ 32) : IVec S128x1 1 × IVec S128 1 × IVec S128 1 × IVec S128 1 × IVec S128x128x3128 1 × IVec S1x128x512 1 × IVec S1x512 1 × IVec S3000x512 1 × IVec S3000 1 :=
  let main_v17 : IVec S128x128 32 := broadcastInDim S128x128 ![] bcast_S_S128x128 main_c_5
  let main_v18 : IVec S128x128 1 := cmpi .ne main_arg7 main_v17
  let main_c_6 : IVec S_ 1 := constantI S_ 1 0#1
  let main_v19 : IVec S128 1 := (fun x v => Host.reduce IntOp.ori x v reducesTo_S128x128_S128_d1 h_S_) main_v18 main_c_6
  let main_c_7 : IVec S_ 32 := constantI S_ 32 0#32
  let main_v20 : IVec S128x64 32 := broadcastInDim S128x64 ![] bcast_S_S128x64 main_c_7
  let main_v21 : IVec S128x64 1 := cmpi .ne main_arg8 main_v20
  let main_c_8 : IVec S_ 1 := constantI S_ 1 0#1
  let main_v22 : IVec S128 1 := (fun x v => Host.reduce IntOp.ori x v reducesTo_S128x64_S128_d1 h_S_) main_v21 main_c_8
  let main_v23 : FVec F S128x128x3128 .f32 := uitofp .f32 main_v8
  let main_v24 : IVec S128x128x3128 1 := cmpf .oeq main_arg10 main_v23
  let main_v25 : FVec F S1x128x512 .f32 := Host.absf main_arg1
  let main_cst : FVec F S_ .f32 := constant S_ .f32 0x7F800000#32
  let main_v26 : FVec F S1x128x512 .f32 := broadcastInDim S1x128x512 ![] bcast_S_S1x128x512 main_cst
  let main_v27 : IVec S1x128x512 1 := cmpf .olt main_v25 main_v26
  let main_v28 : FVec F S1x512 .f32 := Host.absf main_arg14
  let main_cst_9 : FVec F S_ .f32 := constant S_ .f32 0x7F800000#32
  let main_v29 : FVec F S1x512 .f32 := broadcastInDim S1x512 ![] bcast_S_S1x512 main_cst_9
  let main_v30 : IVec S1x512 1 := cmpf .olt main_v28 main_v29
  let main_v31 : FVec F S3000x512 .f32 := Host.absf main_arg17
  let main_cst_10 : FVec F S_ .f32 := constant S_ .f32 0x7F800000#32
  let main_v32 : FVec F S3000x512 .f32 := broadcastInDim S3000x512 ![] bcast_S_S3000x512 main_cst_10
  let main_v33 : IVec S3000x512 1 := cmpf .olt main_v31 main_v32
  let main_v34 : FVec F S3000 .f32 := Host.absf main_arg18
  fn_part2 (F := F) main_v13 main_v16 main_v19 main_v22 main_v24 main_v27 main_v30 main_v33 main_v34

def fn {F : FTy → Type} [FloatOps F] (main_arg0 : IVec S128x1 32) (main_arg1 : FVec F S1x128x512 .f32) (main_arg2 : FVec F S128x256x512 .f32) (main_arg3 : FVec F S128x128x512 .f32) (main_arg4 : FVec F S128x64x512 .f32) (main_arg5 : FVec F S128x32 .f32) (main_arg6 : IVec S128x256 32) (main_arg7 : IVec S128x128 32) (main_arg8 : IVec S128x64 32) (main_arg9 : IVec S128x128 32) (main_arg10 : FVec F S128x128x3128 .f32) (main_arg11 : FVec F S3000x512 .f32) (main_arg12 : FVec F S512x1024 .f32) (main_arg13 : FVec F S512 .f32) (main_arg14 : FVec F S1x512 .f32) (main_arg15 : FVec F S512x512 .f32) (main_arg16 : FVec F S512 .f32) (main_arg17 : FVec F S3000x512 .f32) (main_arg18 : FVec F S3000 .f32) (main_arg19 : FVec F S1536x2080 .f32) (main_arg20 : FVec F S1536x512 .f32) (main_arg21 : FVec F S1536 .f32) (main_arg22 : FVec F S1536 .f32) : IVec S128x1 1 × IVec S128 1 × IVec S128 1 × IVec S128 1 × IVec S128x128x3128 1 × IVec S1x128x512 1 × IVec S1x512 1 × IVec S3000x512 1 × IVec S3000 1 :=
  let main_c : IVec S_ 32 := constantI S_ 32 3000#32
  let main_v0 : IVec S128x128 32 := broadcastInDim S128x128 ![] bcast_S_S128x128 main_c
  let main_v1 : IVec S128x128 1 := cmpi .slt main_arg9 main_v0
  let main_v2 : IVec S128x128 32 := iotaInDim S128x128 32 1
  let main_c_0 : IVec S_ 32 := constantI S_ 32 3000#32
  let main_v3 : IVec S128x128 32 := broadcastInDim S128x128 ![] bcast_S_S128x128 main_c_0
  let main_v4 : IVec S128x128 32 := addi main_v3 main_v2
  let main_v5 : IVec S128x128 32 := select main_v1 main_arg9 main_v4
  let main_v6 : IVec S128x128x3128 32 := broadcastInDim S128x128x3128 ![0, 1] bcast_S128x128_S128x128x3128_0_1 main_v5
  let main_v7 : IVec S128x128x3128 32 := iotaInDim S128x128x3128 32 2
  let main_v8 : IVec S128x128x3128 1 := cmpi .eq main_v6 main_v7
  let main_c_1 : IVec S_ 32 := constantI S_ 32 0#32
  let main_v9 : IVec S128x1 32 := broadcastInDim S128x1 ![] bcast_S_S128x1 main_c_1
  let main_v10 : IVec S128x1 1 := cmpi .sge main_arg0 main_v9
  let main_c_2 : IVec S_ 32 := constantI S_ 32 3000#32
  let main_v11 : IVec S128x1 32 := broadcastInDim S128x1 ![] bcast_S_S128x1 main_c_2
  let main_v12 : IVec S128x1 1 := cmpi .slt main_arg0 main_v11
  let main_v13 : IVec S128x1 1 := andi main_v10 main_v12
  let main_c_3 : IVec S_ 32 := constantI S_ 32 0#32
  let main_v14 : IVec S128x256 32 := broadcastInDim S128x256 ![] bcast_S_S128x256 main_c_3
  let main_v15 : IVec S128x256 1 := cmpi .ne main_arg6 main_v14
  let main_c_4 : IVec S_ 1 := constantI S_ 1 0#1
  let main_v16 : IVec S128 1 := (fun x v => Host.reduce IntOp.ori x v reducesTo_S128x256_S128_d1 h_S_) main_v15 main_c_4
  let main_c_5 : IVec S_ 32 := constantI S_ 32 0#32
  fn_part1 (F := F) main_arg1 main_arg7 main_arg8 main_arg10 main_arg14 main_arg17 main_arg18 main_v8 main_v13 main_v16 main_c_5
-- ==== Pre_in_range.lean ====
abbrev S128x1 : Shape := ⟨2, ![128, 1]⟩
abbrev S1x128x512 : Shape := ⟨3, ![1, 128, 512]⟩
abbrev S128x256x512 : Shape := ⟨3, ![128, 256, 512]⟩
abbrev S128x128x512 : Shape := ⟨3, ![128, 128, 512]⟩
abbrev S128x64x512 : Shape := ⟨3, ![128, 64, 512]⟩
abbrev S128x32 : Shape := ⟨2, ![128, 32]⟩
abbrev S128x256 : Shape := ⟨2, ![128, 256]⟩
abbrev S128x128 : Shape := ⟨2, ![128, 128]⟩
abbrev S128x64 : Shape := ⟨2, ![128, 64]⟩
abbrev S128x128x3128 : Shape := ⟨3, ![128, 128, 3128]⟩
abbrev S3000x512 : Shape := ⟨2, ![3000, 512]⟩
abbrev S512x1024 : Shape := ⟨2, ![512, 1024]⟩
abbrev S512 : Shape := ⟨1, ![512]⟩
abbrev S1x512 : Shape := ⟨2, ![1, 512]⟩
abbrev S512x512 : Shape := ⟨2, ![512, 512]⟩
abbrev S3000 : Shape := ⟨1, ![3000]⟩
abbrev S1536x2080 : Shape := ⟨2, ![1536, 2080]⟩
abbrev S1536x512 : Shape := ⟨2, ![1536, 512]⟩
abbrev S1536 : Shape := ⟨1, ![1536]⟩
abbrev S_ : Shape := ⟨0, ![]⟩

class Facts : Prop where
  bcast_S_S128x1 : S_.BroadcastsInDim S128x1 (![] : Fin 0 → Fin S128x1.rank)

variable [Facts]

def fn {F : FTy → Type} [FloatOps F] (main_arg0 : IVec S128x1 32) (main_arg1 : FVec F S1x128x512 .f32) (main_arg2 : FVec F S128x256x512 .f32) (main_arg3 : FVec F S128x128x512 .f32) (main_arg4 : FVec F S128x64x512 .f32) (main_arg5 : FVec F S128x32 .f32) (main_arg6 : IVec S128x256 32) (main_arg7 : IVec S128x128 32) (main_arg8 : IVec S128x64 32) (main_arg9 : IVec S128x128 32) (main_arg10 : FVec F S128x128x3128 .f32) (main_arg11 : FVec F S3000x512 .f32) (main_arg12 : FVec F S512x1024 .f32) (main_arg13 : FVec F S512 .f32) (main_arg14 : FVec F S1x512 .f32) (main_arg15 : FVec F S512x512 .f32) (main_arg16 : FVec F S512 .f32) (main_arg17 : FVec F S3000x512 .f32) (main_arg18 : FVec F S3000 .f32) (main_arg19 : FVec F S1536x2080 .f32) (main_arg20 : FVec F S1536x512 .f32) (main_arg21 : FVec F S1536 .f32) (main_arg22 : FVec F S1536 .f32) : IVec S128x1 1 :=
  let main_c : IVec S_ 32 := constantI S_ 32 0#32
  let main_v0 : IVec S128x1 32 := broadcastInDim S128x1 ![] bcast_S_S128x1 main_c
  let main_v1 : IVec S128x1 1 := cmpi .sge main_arg0 main_v0
  let main_c_0 : IVec S_ 32 := constantI S_ 32 3000#32
  let main_v2 : IVec S128x1 32 := broadcastInDim S128x1 ![] bcast_S_S128x1 main_c_0
  let main_v3 : IVec S128x1 1 := cmpi .slt main_arg0 main_v2
  let main_v4 : IVec S128x1 1 := andi main_v1 main_v3
  main_v4
-- ==== Kernel.lean ====
abbrev S128x1 : Shape := ⟨2, ![128, 1]⟩
abbrev S1x128x512 : Shape := ⟨3, ![1, 128, 512]⟩
abbrev S128x256x512 : Shape := ⟨3, ![128, 256, 512]⟩
abbrev S128x128x512 : Shape := ⟨3, ![128, 128, 512]⟩
abbrev S128x64x512 : Shape := ⟨3, ![128, 64, 512]⟩
abbrev S128x32 : Shape := ⟨2, ![128, 32]⟩
abbrev S128x256 : Shape := ⟨2, ![128, 256]⟩
abbrev S128x128 : Shape := ⟨2, ![128, 128]⟩
abbrev S128x64 : Shape := ⟨2, ![128, 64]⟩
abbrev S128x128x3128 : Shape := ⟨3, ![128, 128, 3128]⟩
abbrev S3000x512 : Shape := ⟨2, ![3000, 512]⟩
abbrev S512x1024 : Shape := ⟨2, ![512, 1024]⟩
abbrev S512 : Shape := ⟨1, ![512]⟩
abbrev S1x512 : Shape := ⟨2, ![1, 512]⟩
abbrev S512x512 : Shape := ⟨2, ![512, 512]⟩
abbrev S3000 : Shape := ⟨1, ![3000]⟩
abbrev S1536x2080 : Shape := ⟨2, ![1536, 2080]⟩
abbrev S1536x512 : Shape := ⟨2, ![1536, 512]⟩
abbrev S1536 : Shape := ⟨1, ![1536]⟩
abbrev S128x512 : Shape := ⟨2, ![128, 512]⟩
abbrev S128x256x1 : Shape := ⟨3, ![128, 256, 1]⟩
abbrev S128x128x1 : Shape := ⟨3, ![128, 128, 1]⟩
abbrev S128x64x1 : Shape := ⟨3, ![128, 64, 1]⟩
abbrev S128x1x32 : Shape := ⟨3, ![128, 1, 32]⟩
abbrev S1024x512 : Shape := ⟨2, ![1024, 512]⟩
abbrev S128x1x2080 : Shape := ⟨3, ![128, 1, 2080]⟩
abbrev S8x512 : Shape := ⟨2, ![8, 512]⟩
abbrev S8x256x512 : Shape := ⟨3, ![8, 256, 512]⟩
abbrev S8x128x512 : Shape := ⟨3, ![8, 128, 512]⟩
abbrev S8x64x512 : Shape := ⟨3, ![8, 64, 512]⟩
abbrev S8x256x1 : Shape := ⟨3, ![8, 256, 1]⟩
abbrev S8x128x1 : Shape := ⟨3, ![8, 128, 1]⟩
abbrev S8x64x1 : Shape := ⟨3, ![8, 64, 1]⟩
abbrev S8x1x32 : Shape := ⟨3, ![8, 1, 32]⟩
abbrev S8x1x2080 : Shape := ⟨3, ![8, 1, 2080]⟩
abbrev S1x1 : Shape := ⟨2, ![1, 1]⟩
abbrev S1x1x512 : Shape := ⟨3, ![1, 1, 512]⟩
abbrev S2048x512 : Shape := ⟨2, ![2048, 512]⟩
abbrev S8x1x512 : Shape := ⟨3, ![8, 1, 512]⟩
abbrev S8x256 : Shape := ⟨2, ![8, 256]⟩
abbrev S8x1 : Shape := ⟨2, ![8, 1]⟩
abbrev S8x1x1 : Shape := ⟨3, ![8, 1, 1]⟩
abbrev S8x128 : Shape := ⟨2, ![8, 128]⟩
abbrev S8x64 : Shape := ⟨2, ![8, 64]⟩
abbrev S128x1x128 : Shape := ⟨3, ![128, 1, 128]⟩
abbrev S2080x1536 : Shape := ⟨2, ![2080, 1536]⟩
abbrev S512x1536 : Shape := ⟨2, ![512, 1536]⟩
abbrev S1x1536 : Shape := ⟨2, ![1, 1536]⟩
abbrev S512x3000 : Shape := ⟨2, ![512, 3000]⟩
abbrev S1x3000 : Shape := ⟨2, ![1, 3000]⟩
abbrev S128x1x3400 : Shape := ⟨3, ![128, 1, 3400]⟩
abbrev S16x1x2080 : Shape := ⟨3, ![16, 1, 2080]⟩
abbrev S16x512 : Shape := ⟨2, ![16, 512]⟩
abbrev S16x128x512 : Shape := ⟨3, ![16, 128, 512]⟩
abbrev S16x1x128 : Shape := ⟨3, ![16, 1, 128]⟩
abbrev S16x1x3400 : Shape := ⟨3, ![16, 1, 3400]⟩
abbrev S16x2080 : Shape := ⟨2, ![16, 2080]⟩
abbrev S16x1536 : Shape := ⟨2, ![16, 1536]⟩
abbrev S16x3000 : Shape := ⟨2, ![16, 3000]⟩
abbrev S16x1x512 : Shape := ⟨3, ![16, 1, 512]⟩
abbrev S16x128 : Shape := ⟨2, ![16, 128]⟩
abbrev S16x128x1 : Shape := ⟨3, ![16, 128, 1]⟩
abbrev S16x3072 : Shape := ⟨2, ![16, 3072]⟩
abbrev S16x1 : Shape := ⟨2, ![16, 1]⟩
abbrev S16 : Shape := ⟨1, ![16]⟩
abbrev S16x400 : Shape := ⟨2, ![16, 400]⟩
abbrev S16x3400 : Shape := ⟨2, ![16, 3400]⟩

abbrev nBuf : Space → Nat
  | .hbm => 46
  | .vmem => 42
  | .smem => 1
  | _ => 0

abbrev bufTy : (tb : Table) → Fin (tcTables nBuf tb) → BufTy
  | .hbm, ⟨0, _⟩ => ⟨S128x1, .i32⟩
  | .hbm, ⟨1, _⟩ => ⟨S1x128x512, .f32⟩
  | .hbm, ⟨2, _⟩ => ⟨S128x256x512, .f32⟩
  | .hbm, ⟨3, _⟩ => ⟨S128x128x512, .f32⟩
  | .hbm, ⟨4, _⟩ => ⟨S128x64x512, .f32⟩
  | .hbm, ⟨5, _⟩ => ⟨S128x32, .f32⟩
  | .hbm, ⟨6, _⟩ => ⟨S128x256, .i32⟩
  | .hbm, ⟨7, _⟩ => ⟨S128x128, .i32⟩
  | .hbm, ⟨8, _⟩ => ⟨S128x64, .i32⟩
  | .hbm, ⟨9, _⟩ => ⟨S128x128, .i32⟩
  | .hbm, ⟨10, _⟩ => ⟨S128x128x3128, .f32⟩
  | .hbm, ⟨11, _⟩ => ⟨S3000x512, .f32⟩
  | .hbm, ⟨12, _⟩ => ⟨S512x1024, .f32⟩
  | .hbm, ⟨13, _⟩ => ⟨S512, .f32⟩
  | .hbm, ⟨14, _⟩ => ⟨S1x512, .f32⟩
  | .hbm, ⟨15, _⟩ => ⟨S512x512, .f32⟩
  | .hbm, ⟨16, _⟩ => ⟨S512, .f32⟩
  | .hbm, ⟨17, _⟩ => ⟨S3000x512, .f32⟩
  | .hbm, ⟨18, _⟩ => ⟨S3000, .f32⟩
  | .hbm, ⟨19, _⟩ => ⟨S1536x2080, .f32⟩
  | .hbm, ⟨20, _⟩ => ⟨S1536x512, .f32⟩
  | .hbm, ⟨21, _⟩ => ⟨S1536, .f32⟩
  | .hbm, ⟨22, _⟩ => ⟨S1536, .f32⟩
  | .hbm, ⟨23, _⟩ => ⟨S128x512, .f32⟩
  | .hbm, ⟨24, _⟩ => ⟨S128x256x1, .i32⟩
  | .hbm, ⟨25, _⟩ => ⟨S128x128x1, .i32⟩
  | .hbm, ⟨26, _⟩ => ⟨S128x64x1, .i32⟩
  | .hbm, ⟨27, _⟩ => ⟨S128x1x32, .f32⟩
  | .hbm, ⟨28, _⟩ => ⟨S1024x512, .f32⟩
  | .hbm, ⟨29, _⟩ => ⟨S1x512, .f32⟩
  | .hbm, ⟨30, _⟩ => ⟨S128x1x2080, .f32⟩
  | .hbm, ⟨31, _⟩ => ⟨S128x1x128, .i32⟩
  | .hbm, ⟨32, _⟩ => ⟨S128x1x128, .i32⟩
  | .hbm, ⟨33, _⟩ => ⟨S2080x1536, .f32⟩
  | .hbm, ⟨34, _⟩ => ⟨S2080x1536, .bf16⟩
  | .hbm, ⟨35, _⟩ => ⟨S512x1536, .f32⟩
  | .hbm, ⟨36, _⟩ => ⟨S512x1536, .bf16⟩
  | .hbm, ⟨37, _⟩ => ⟨S1x1536, .f32⟩
  | .hbm, ⟨38, _⟩ => ⟨S1x1536, .f32⟩
  | .hbm, ⟨39, _⟩ => ⟨S512x512, .f32⟩
  | .hbm, ⟨40, _⟩ => ⟨S512x512, .bf16⟩
  | .hbm, ⟨41, _⟩ => ⟨S1x512, .f32⟩
  | .hbm, ⟨42, _⟩ => ⟨S512x3000, .f32⟩
  | .hbm, ⟨43, _⟩ => ⟨S512x3000, .bf16⟩
  | .hbm, ⟨44, _⟩ => ⟨S1x3000, .f32⟩
  | .hbm, ⟨45, _⟩ => ⟨S128x1x3400, .f32⟩
  | .local _ .vmem, ⟨0, _⟩ => ⟨S8x512, .f32⟩
  | .local _ .vmem, ⟨1, _⟩ => ⟨S8x512, .f32⟩
  | .local _ .vmem, ⟨2, _⟩ => ⟨S8x256x512, .f32⟩
  | .local _ .vmem, ⟨3, _⟩ => ⟨S8x256x512, .f32⟩
  | .local _ .vmem, ⟨4, _⟩ => ⟨S8x128x512, .f32⟩
  | .local _ .vmem, ⟨5, _⟩ => ⟨S8x128x512, .f32⟩
  | .local _ .vmem, ⟨6, _⟩ => ⟨S8x64x512, .f32⟩
  | .local _ .vmem, ⟨7, _⟩ => ⟨S8x64x512, .f32⟩
  | .local _ .vmem, ⟨8, _⟩ => ⟨S8x256x1, .i32⟩
  | .local _ .vmem, ⟨9, _⟩ => ⟨S8x256x1, .i32⟩
  | .local _ .vmem, ⟨10, _⟩ => ⟨S8x128x1, .i32⟩
  | .local _ .vmem, ⟨11, _⟩ => ⟨S8x128x1, .i32⟩
  | .local _ .vmem, ⟨12, _⟩ => ⟨S8x64x1, .i32⟩
  | .local _ .vmem, ⟨13, _⟩ => ⟨S8x64x1, .i32⟩
  | .local _ .vmem, ⟨14, _⟩ => ⟨S8x1x32, .f32⟩
  | .local _ .vmem, ⟨15, _⟩ => ⟨S8x1x32, .f32⟩
  | .local _ .vmem, ⟨16, _⟩ => ⟨S1024x512, .f32⟩
  | .local _ .vmem, ⟨17, _⟩ => ⟨S1x512, .f32⟩
  | .local _ .vmem, ⟨18, _⟩ => ⟨S1x512, .f32⟩
  | .local _ .vmem, ⟨19, _⟩ => ⟨S3000x512, .f32⟩
  | .local _ .vmem, ⟨20, _⟩ => ⟨S8x1x2080, .f32⟩
  | .local _ .vmem, ⟨21, _⟩ => ⟨S8x1x2080, .f32⟩
  | .local _ .vmem, ⟨22, _⟩ => ⟨S16x1x2080, .f32⟩
  | .local _ .vmem, ⟨23, _⟩ => ⟨S16x1x2080, .f32⟩
  | .local _ .vmem, ⟨24, _⟩ => ⟨S16x512, .f32⟩
  | .local _ .vmem, ⟨25, _⟩ => ⟨S16x512, .f32⟩
  | .local _ .vmem, ⟨26, _⟩ => ⟨S16x128x512, .f32⟩
  | .local _ .vmem, ⟨27, _⟩ => ⟨S16x128x512, .f32⟩
  | .local _ .vmem, ⟨28, _⟩ => ⟨S16x1x128, .i32⟩
  | .local _ .vmem, ⟨29, _⟩ => ⟨S16x1x128, .i32⟩
  | .local _ .vmem, ⟨30, _⟩ => ⟨S16x1x128, .i32⟩
  | .local _ .vmem, ⟨31, _⟩ => ⟨S16x1x128, .i32⟩
  | .local _ .vmem, ⟨32, _⟩ => ⟨S2080x1536, .bf16⟩
  | .local _ .vmem, ⟨33, _⟩ => ⟨S512x1536, .bf16⟩
  | .local _ .vmem, ⟨34, _⟩ => ⟨S1x1536, .f32⟩
  | .local _ .vmem, ⟨35, _⟩ => ⟨S1x1536, .f32⟩
  | .local _ .vmem, ⟨36, _⟩ => ⟨S512x512, .bf16⟩
  | .local _ .vmem, ⟨37, _⟩ => ⟨S1x512, .f32⟩
  | .local _ .vmem, ⟨38, _⟩ => ⟨S512x3000, .bf16⟩
  | .local _ .vmem, ⟨39, _⟩ => ⟨S1x3000, .f32⟩
  | .local _ .vmem, ⟨40, _⟩ => ⟨S16x1x3400, .f32⟩
  | .local _ .vmem, ⟨41, _⟩ => ⟨S16x1x3400, .f32⟩
  | .local _ .smem, ⟨0, _⟩ => ⟨S128x1, .i32⟩
  | _, _ => ⟨S128x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg10_0 : Ref sig .tc := ⟨.vmem, 37, rfl⟩
abbrev cc1_stg11_0 : Ref sig .tc := ⟨.vmem, 38, rfl⟩
abbrev cc1_stg12_0 : Ref sig .tc := ⟨.vmem, 39, rfl⟩
abbrev cc1_stg13_0 : Ref sig .tc := ⟨.vmem, 40, rfl⟩
abbrev cc1_stg13_1 : Ref sig .tc := ⟨.vmem, 41, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem10_0 : DmaSem sig := 38
abbrev cc1_sem11_0 : DmaSem sig := 39
abbrev cc1_sem12_0 : DmaSem sig := 40
abbrev cc1_sem13_0 : DmaSem sig := 41
abbrev cc1_sem13_1 : DmaSem sig := 42

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let c0 : Index := 0#32
  ![v2.toNat, 0]
def k0_off2 (v3 : BitVec 32) : Fin 2 → Nat :=
  let v4 : Index := Scalar.indexCast v3
  let c0_0 : Index := 0#32
  ![v4.toNat, 0]

def k0_chk1 (v3 : BitVec 32) : Prop :=
  (∀ a, (k0_off2 v3) a + S1x512.size a ≤ S3000x512.size a)
theorem k0_off2_inb : ∀ (v3 : BitVec 32) (k0_hw1 : k0_chk1 v3), ∀ a, (k0_off2 v3) a + S1x512.size a ≤ S3000x512.size a := fun v3 k0_hw1 => k0_hw1

def k0_off3 (i : grid0.Coords) : Fin 2 → Nat :=
  let arg0 : BitVec 32 := BitVec.ofNat 32 (i 0).val
  let c8_i32_4 : BitVec 32 := 8#32
  let v10 : BitVec 32 := Scalar.muli arg0 c8_i32_4
  let c1_i32 : BitVec 32 := 1#32
  let v11 : BitVec 32 := Scalar.addi v10 c1_i32
  let v12 : Index := Scalar.indexCast v11
  let c0_5 : Index := 0#32
  ![v12.toNat, 0]
def k0_off4 (v13 : BitVec 32) : Fin 2 → Nat :=
  let v14 : Index := Scalar.indexCast v13
  let c0_6 : Index := 0#32
  ![v14.toNat, 0]

def k0_chk2 (v13 : BitVec 32) : Prop :=
  (∀ a, (k0_off4 v13) a + S1x512.size a ≤ S3000x512.size a)
theorem k0_off4_inb : ∀ (v13 : BitVec 32) (k0_hw2 : k0_chk2 v13), ∀ a, (k0_off4 v13) a + S1x512.size a ≤ S3000x512.size a := fun v13 k0_hw2 => k0_hw2

def k0_off5 (i : grid0.Coords) : Fin 2 → Nat :=
  let arg0 : BitVec 32 := BitVec.ofNat 32 (i 0).val
  let c8_i32_9 : BitVec 32 := 8#32
  let v20 : BitVec 32 := Scalar.muli arg0 c8_i32_9
  let c2_i32 : BitVec 32 := 2#32
  let v21 : BitVec 32 := Scalar.addi v20 c2_i32
  let v22 : Index := Scalar.indexCast v21
  let c0_10 : Index := 0#32
  ![v22.toNat, 0]
def k0_off6 (v23 : BitVec 32) : Fin 2 → Nat :=
  let v24 : Index := Scalar.indexCast v23
  let c0_11 : Index := 0#32
  ![v24.toNat, 0]

def k0_chk3 (v23 : BitVec 32) : Prop :=
  (∀ a, (k0_off6 v23) a + S1x512.size a ≤ S3000x512.size a)
theorem k0_off6_inb : ∀ (v23 : BitVec 32) (k0_hw3 : k0_chk3 v23), ∀ a, (k0_off6 v23) a + S1x512.size a ≤ S3000x512.size a := fun v23 k0_hw3 => k0_hw3

def k0_off7 (i : grid0.Coords) : Fin 2 → Nat :=
  let arg0 : BitVec 32 := BitVec.ofNat 32 (i 0).val
  let c8_i32_14 : BitVec 32 := 8#32
  let v30 : BitVec 32 := Scalar.muli arg0 c8_i32_14
  let c3_i32 : BitVec 32 := 3#32
  let v31 : BitVec 32 := Scalar.addi v30 c3_i32
  let v32 : Index := Scalar.indexCast v31
  let c0_15 : Index := 0#32
  ![v32.toNat, 0]
def k0_off8 (v33 : BitVec 32) : Fin 2 → Nat :=
  let v34 : Index := Scalar.indexCast v33
  let c0_16 : Index := 0#32
  ![v34.toNat, 0]

def k0_chk4 (v33 : BitVec 32) : Prop :=
  (∀ a, (k0_off8 v33) a + S1x512.size a ≤ S3000x512.size a)
theorem k0_off8_inb : ∀ (v33 : BitVec 32) (k0_hw4 : k0_chk4 v33), ∀ a, (k0_off8 v33) a + S1x512.size a ≤ S3000x512.size a := fun v33 k0_hw4 => k0_hw4

def k0_off9 (i : grid0.Coords) : Fin 2 → Nat :=
  let arg0 : BitVec 32 := BitVec.ofNat 32 (i 0).val
  let c8_i32_19 : BitVec 32 := 8#32
  let v40 : BitVec 32 := Scalar.muli arg0 c8_i32_19
  let c4_i32 : BitVec 32 := 4#32
  let v41 : BitVec 32 := Scalar.addi v40 c4_i32
  let v42 : Index := Scalar.indexCast v41
  let c0_20 : Index := 0#32
  ![v42.toNat, 0]
def k0_off10 (v43 : BitVec 32) : Fin 2 → Nat :=
  let v44 : Index := Scalar.indexCast v43
  let c0_21 : Index := 0#32
  ![v44.toNat, 0]

def k0_chk5 (v43 : BitVec 32) : Prop :=
  (∀ a, (k0_off10 v43) a + S1x512.size a ≤ S3000x512.size a)
theorem k0_off10_inb : ∀ (v43 : BitVec 32) (k0_hw5 : k0_chk5 v43), ∀ a, (k0_off10 v43) a + S1x512.size a ≤ S3000x512.size a := fun v43 k0_hw5 => k0_hw5

def k0_off11 (i : grid0.Coords) : Fin 2 → Nat :=
  let arg0 : BitVec 32 := BitVec.ofNat 32 (i 0).val
  let c8_i32_24 : BitVec 32 := 8#32
  let v50 : BitVec 32 := Scalar.muli arg0 c8_i32_24
  let c5_i32 : BitVec 32 := 5#32
  let v51 : BitVec 32 := Scalar.addi v50 c5_i32
  let v52 : Index := Scalar.indexCast v51
  let c0_25 : Index := 0#32
  ![v52.toNat, 0]
def k0_off12 (v53 : BitVec 32) : Fin 2 → Nat :=
  let v54 : Index := Scalar.indexCast v53
  let c0_26 : Index := 0#32
  ![v54.toNat, 0]

def k0_chk6 (v53 : BitVec 32) : Prop :=
  (∀ a, (k0_off12 v53) a + S1x512.size a ≤ S3000x512.size a)
theorem k0_off12_inb : ∀ (v53 : BitVec 32) (k0_hw6 : k0_chk6 v53), ∀ a, (k0_off12 v53) a + S1x512.size a ≤ S3000x512.size a := fun v53 k0_hw6 => k0_hw6

def k0_off13 (i : grid0.Coords) : Fin 2 → Nat :=
  let arg0 : BitVec 32 := BitVec.ofNat 32 (i 0).val
  let c8_i32_29 : BitVec 32 := 8#32
  let v60 : BitVec 32 := Scalar.muli arg0 c8_i32_29
  let c6_i32 : BitVec 32 := 6#32
  let v61 : BitVec 32 := Scalar.addi v60 c6_i32
  let v62 : Index := Scalar.indexCast v61
  let c0_30 : Index := 0#32
  ![v62.toNat, 0]
def k0_off14 (v63 : BitVec 32) : Fin 2 → Nat :=
  let v64 : Index := Scalar.indexCast v63
  let c0_31 : Index := 0#32
  ![v64.toNat, 0]

def k0_chk7 (v63 : BitVec 32) : Prop :=
  (∀ a, (k0_off14 v63) a + S1x512.size a ≤ S3000x512.size a)
theorem k0_off14_inb : ∀ (v63 : BitVec 32) (k0_hw7 : k0_chk7 v63), ∀ a, (k0_off14 v63) a + S1x512.size a ≤ S3000x512.size a := fun v63 k0_hw7 => k0_hw7

def k0_off15 (i : grid0.Coords) : Fin 2 → Nat :=
  let arg0 : BitVec 32 := BitVec.ofNat 32 (i 0).val
  let c8_i32_34 : BitVec 32 := 8#32
  let v70 : BitVec 32 := Scalar.muli arg0 c8_i32_34
  let c7_i32 : BitVec 32 := 7#32
  let v71 : BitVec 32 := Scalar.addi v70 c7_i32
  let v72 : Index := Scalar.indexCast v71
  let c0_35 : Index := 0#32
  ![v72.toNat, 0]
def k0_off16 (v73 : BitVec 32) : Fin 2 → Nat :=
  let v74 : Index := Scalar.indexCast v73
  let c0_36 : Index := 0#32
  ![v74.toNat, 0]

def k0_chk8 (v73 : BitVec 32) : Prop :=
  (∀ a, (k0_off16 v73) a + S1x512.size a ≤ S3000x512.size a)
theorem k0_off16_inb : ∀ (v73 : BitVec 32) (k0_hw8 : k0_chk8 v73), ∀ a, (k0_off16 v73) a + S1x512.size a ≤ S3000x512.size a := fun v73 k0_hw8 => k0_hw8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3000x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x1x2080 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x1x2080 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x1x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2080x1536 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1536 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1536 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1536 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x3000 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x3000 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S16x1x3400 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== KernelIdeal.lean ====
variable {F : FTy → Type} [FloatOps F] [Named F]
def κ : String → Option EReal := fun
  | "neg" => some ⊥
  | _ => none
-- ==== ReferenceIdeal.lean ====
abbrev S128x1 : Shape := ⟨2, ![128, 1]⟩
abbrev S1x128x512 : Shape := ⟨3, ![1, 128, 512]⟩
abbrev S128x256x512 : Shape := ⟨3, ![128, 256, 512]⟩
abbrev S128x128x512 : Shape := ⟨3, ![128, 128, 512]⟩
abbrev S128x64x512 : Shape := ⟨3, ![128, 64, 512]⟩
abbrev S128x32 : Shape := ⟨2, ![128, 32]⟩
abbrev S128x256 : Shape := ⟨2, ![128, 256]⟩
abbrev S128x128 : Shape := ⟨2, ![128, 128]⟩
abbrev S128x64 : Shape := ⟨2, ![128, 64]⟩
abbrev S128x128x3128 : Shape := ⟨3, ![128, 128, 3128]⟩
abbrev S3000x512 : Shape := ⟨2, ![3000, 512]⟩
abbrev S512x1024 : Shape := ⟨2, ![512, 1024]⟩
abbrev S512 : Shape := ⟨1, ![512]⟩
abbrev S1x512 : Shape := ⟨2, ![1, 512]⟩
abbrev S512x512 : Shape := ⟨2, ![512, 512]⟩
abbrev S3000 : Shape := ⟨1, ![3000]⟩
abbrev S1536x2080 : Shape := ⟨2, ![1536, 2080]⟩
abbrev S1536x512 : Shape := ⟨2, ![1536, 512]⟩
abbrev S1536 : Shape := ⟨1, ![1536]⟩
abbrev S128x512 : Shape := ⟨2, ![128, 512]⟩
abbrev S_ : Shape := ⟨0, ![]⟩
abbrev S128x1x1 : Shape := ⟨3, ![128, 1, 1]⟩
abbrev S128x1x512 : Shape := ⟨3, ![128, 1, 512]⟩
abbrev S128x1x256 : Shape := ⟨3, ![128, 1, 256]⟩
abbrev S128x1x128 : Shape := ⟨3, ![128, 1, 128]⟩
abbrev S128x1x64 : Shape := ⟨3, ![128, 1, 64]⟩
abbrev S128x256x1024 : Shape := ⟨3, ![128, 256, 1024]⟩
abbrev S1024x512 : Shape := ⟨2, ![1024, 512]⟩
abbrev S1x1x512 : Shape := ⟨3, ![1, 1, 512]⟩
abbrev S512x1 : Shape := ⟨2, ![512, 1]⟩
abbrev S128x256x1 : Shape := ⟨3, ![128, 256, 1]⟩
abbrev S128x128x1024 : Shape := ⟨3, ![128, 128, 1024]⟩
abbrev S128x128x1 : Shape := ⟨3, ![128, 128, 1]⟩
abbrev S128x64x1024 : Shape := ⟨3, ![128, 64, 1024]⟩
abbrev S128x64x1 : Shape := ⟨3, ![128, 64, 1]⟩
abbrev S128x1x32 : Shape := ⟨3, ![128, 1, 32]⟩
abbrev S128x1x2080 : Shape := ⟨3, ![128, 1, 2080]⟩
abbrev S128x2080 : Shape := ⟨2, ![128, 2080]⟩
abbrev S2080x1536 : Shape := ⟨2, ![2080, 1536]⟩
abbrev S128x1536 : Shape := ⟨2, ![128, 1536]⟩
abbrev S1x1536 : Shape := ⟨2, ![1, 1536]⟩
abbrev S512x1536 : Shape := ⟨2, ![512, 1536]⟩
abbrev S512x3000 : Shape := ⟨2, ![512, 3000]⟩
abbrev S128x1x3000 : Shape := ⟨3, ![128, 1, 3000]⟩
abbrev S1x1x3000 : Shape := ⟨3, ![1, 1, 3000]⟩
abbrev S128x1x3128 : Shape := ⟨3, ![128, 1, 3128]⟩
abbrev S128x1x6128 : Shape := ⟨3, ![128, 1, 6128]⟩
abbrev S128x1x3400 : Shape := ⟨3, ![128, 1, 3400]⟩
abbrev S128 : Shape := ⟨1, ![128]⟩
abbrev S128x128x3 : Shape := ⟨3, ![128, 128, 3]⟩
abbrev S1 : Shape := ⟨1, ![1]⟩

abbrev nBuf : Space → Nat
  | .hbm => 282
  | .vmem => 0
  | .smem => 0
  | _ => 0

abbrev hbmTy0_0 (i : Nat) : BufTy := match i % 128 with
  | 0 => ⟨S128x1, .i32⟩
  | 1 => ⟨S1x128x512, .f32⟩
  | 2 => ⟨S128x256x512, .f32⟩
  | 3 => ⟨S128x128x512, .f32⟩
  | 4 => ⟨S128x64x512, .f32⟩
  | 5 => ⟨S128x32, .f32⟩
  | 6 => ⟨S128x256, .i32⟩
  | 7 => ⟨S128x128, .i32⟩
  | 8 => ⟨S128x64, .i32⟩
  | 9 => ⟨S128x128, .i32⟩
  | 10 => ⟨S128x128x3128, .f32⟩
  | 11 => ⟨S3000x512, .f32⟩
  | 12 => ⟨S512x1024, .f32⟩
  | 13 => ⟨S512, .f32⟩
  | 14 => ⟨S1x512, .f32⟩
  | 15 => ⟨S512x512, .f32⟩
  | 16 => ⟨S512, .f32⟩
  | 17 => ⟨S3000x512, .f32⟩
  | 18 => ⟨S3000, .f32⟩
  | 19 => ⟨S1536x2080, .f32⟩
  | 20 => ⟨S1536x512, .f32⟩
  | 21 => ⟨S1536, .f32⟩
  | 22 => ⟨S1536, .f32⟩
  | 23 => ⟨S128x512, .f32⟩
  | 24 => ⟨S_, .i32⟩
  | 25 => ⟨S128x1, .i32⟩
  | 26 => ⟨S128x1, .i1⟩
  | 27 => ⟨S_, .i32⟩
  | 28 => ⟨S128x1, .i32⟩
  | 29 => ⟨S128x1, .i32⟩
  | 30 => ⟨S128x1, .i32⟩
  | 31 => ⟨S128x1x1, .i32⟩
  | 32 => ⟨S128x1x512, .f32⟩
  | 33 => ⟨S_, .i32⟩
  | 34 => ⟨S128x256, .i32⟩
  | 35 => ⟨S128x256, .i1⟩
  | 36 => ⟨S128x1x256, .i1⟩
  | 37 => ⟨S_, .i32⟩
  | 38 => ⟨S128x128, .i32⟩
  | 39 => ⟨S128x128, .i1⟩
  | 40 => ⟨S128x1x128, .i1⟩
  | 41 => ⟨S_, .i32⟩
  | 42 => ⟨S128x64, .i32⟩
  | 43 => ⟨S128x64, .i1⟩
  | 44 => ⟨S128x1x64, .i1⟩
  | 45 => ⟨S128x1x512, .f32⟩
  | 46 => ⟨S128x256x512, .f32⟩
  | 47 => ⟨S128x256x1024, .f32⟩
  | 48 => ⟨S1024x512, .f32⟩
  | 49 => ⟨S128x256x512, .f32⟩
  | 50 => ⟨S1x1x512, .f32⟩
  | 51 => ⟨S128x256x512, .f32⟩
  | 52 => ⟨S128x256x512, .f32⟩
  | 53 => ⟨S128x256x512, .f32⟩
  | 54 => ⟨S512x1, .f32⟩
  | 55 => ⟨S128x256x1, .f32⟩
  | 56 => ⟨S128x1x256, .f32⟩
  | 57 => ⟨S_, .f32⟩
  | 58 => ⟨S_, .f32⟩
  | 59 => ⟨S128x1x256, .f32⟩
  | 60 => ⟨S128x1x256, .f32⟩
  | 61 => ⟨S_, .f32⟩
  | 62 => ⟨S128x1, .f32⟩
  | 63 => ⟨S_, .f32⟩
  | 64 => ⟨S128x1, .f32⟩
  | 65 => ⟨S128x1, .f32⟩
  | 66 => ⟨S128x1x1, .f32⟩
  | 67 => ⟨S128x1x256, .f32⟩
  | 68 => ⟨S128x1x256, .f32⟩
  | 69 => ⟨S128x1x256, .f32⟩
  | 70 => ⟨S_, .f32⟩
  | 71 => ⟨S128x1, .f32⟩
  | 72 => ⟨S128x1x1, .f32⟩
  | 73 => ⟨S128x1x256, .f32⟩
  | 74 => ⟨S128x1x256, .f32⟩
  | 75 => ⟨S128x1x512, .f32⟩
  | 76 => ⟨S128x1x512, .f32⟩
  | 77 => ⟨S128x128x512, .f32⟩
  | 78 => ⟨S128x128x1024, .f32⟩
  | 79 => ⟨S1024x512, .f32⟩
  | 80 => ⟨S128x128x512, .f32⟩
  | 81 => ⟨S1x1x512, .f32⟩
  | 82 => ⟨S128x128x512, .f32⟩
  | 83 => ⟨S128x128x512, .f32⟩
  | 84 => ⟨S128x128x512, .f32⟩
  | 85 => ⟨S512x1, .f32⟩
  | 86 => ⟨S128x128x1, .f32⟩
  | 87 => ⟨S128x1x128, .f32⟩
  | 88 => ⟨S_, .f32⟩
  | 89 => ⟨S_, .f32⟩
  | 90 => ⟨S128x1x128, .f32⟩
  | 91 => ⟨S128x1x128, .f32⟩
  | 92 => ⟨S_, .f32⟩
  | 93 => ⟨S128x1, .f32⟩
  | 94 => ⟨S_, .f32⟩
  | 95 => ⟨S128x1, .f32⟩
  | 96 => ⟨S128x1, .f32⟩
  | 97 => ⟨S128x1x1, .f32⟩
  | 98 => ⟨S128x1x128, .f32⟩
  | 99 => ⟨S128x1x128, .f32⟩
  | 100 => ⟨S128x1x128, .f32⟩
  | 101 => ⟨S_, .f32⟩
  | 102 => ⟨S128x1, .f32⟩
  | 103 => ⟨S128x1x1, .f32⟩
  | 104 => ⟨S128x1x128, .f32⟩
  | 105 => ⟨S128x1x128, .f32⟩
  | 106 => ⟨S128x1x512, .f32⟩
  | 107 => ⟨S128x1x512, .f32⟩
  | 108 => ⟨S128x64x512, .f32⟩
  | 109 => ⟨S128x64x1024, .f32⟩
  | 110 => ⟨S1024x512, .f32⟩
  | 111 => ⟨S128x64x512, .f32⟩
  | 112 => ⟨S1x1x512, .f32⟩
  | 113 => ⟨S128x64x512, .f32⟩
  | 114 => ⟨S128x64x512, .f32⟩
  | 115 => ⟨S128x64x512, .f32⟩
  | 116 => ⟨S512x1, .f32⟩
  | 117 => ⟨S128x64x1, .f32⟩
  | 118 => ⟨S128x1x64, .f32⟩
  | 119 => ⟨S_, .f32⟩
  | 120 => ⟨S_, .f32⟩
  | 121 => ⟨S128x1x64, .f32⟩
  | 122 => ⟨S128x1x64, .f32⟩
  | 123 => ⟨S_, .f32⟩
  | 124 => ⟨S128x1, .f32⟩
  | 125 => ⟨S_, .f32⟩
  | 126 => ⟨S128x1, .f32⟩
  | 127 => ⟨S128x1, .f32⟩
  | _ => ⟨S128x1, .i32⟩

abbrev hbmTy0_1 (i : Nat) : BufTy := match i % 128 with
  | 0 => ⟨S128x1x1, .f32⟩
  | 1 => ⟨S128x1x64, .f32⟩
  | 2 => ⟨S128x1x64, .f32⟩
  | 3 => ⟨S128x1x64, .f32⟩
  | 4 => ⟨S_, .f32⟩
  | 5 => ⟨S128x1, .f32⟩
  | 6 => ⟨S128x1x1, .f32⟩
  | 7 => ⟨S128x1x64, .f32⟩
  | 8 => ⟨S128x1x64, .f32⟩
  | 9 => ⟨S128x1x512, .f32⟩
  | 10 => ⟨S128x1x32, .f32⟩
  | 11 => ⟨S128x1x2080, .f32⟩
  | 12 => ⟨S128x2080, .f32⟩
  | 13 => ⟨S2080x1536, .f32⟩
  | 14 => ⟨S128x1536, .f32⟩
  | 15 => ⟨S1x1536, .f32⟩
  | 16 => ⟨S128x1536, .f32⟩
  | 17 => ⟨S128x1536, .f32⟩
  | 18 => ⟨S512x1536, .f32⟩
  | 19 => ⟨S128x1536, .f32⟩
  | 20 => ⟨S1x1536, .f32⟩
  | 21 => ⟨S128x1536, .f32⟩
  | 22 => ⟨S128x1536, .f32⟩
  | 23 => ⟨S128x512, .f32⟩
  | 24 => ⟨S128x512, .f32⟩
  | 25 => ⟨S128x512, .f32⟩
  | 26 => ⟨S128x512, .f32⟩
  | 27 => ⟨S128x512, .f32⟩
  | 28 => ⟨S128x512, .f32⟩
  | 29 => ⟨S128x512, .f32⟩
  | 30 => ⟨S128x512, .f32⟩
  | 31 => ⟨S128x512, .f32⟩
  | 32 => ⟨S_, .f32⟩
  | 33 => ⟨S128x512, .f32⟩
  | 34 => ⟨S128x512, .f32⟩
  | 35 => ⟨S_, .f32⟩
  | 36 => ⟨S128x512, .f32⟩
  | 37 => ⟨S128x512, .f32⟩
  | 38 => ⟨S128x512, .f32⟩
  | 39 => ⟨S128x512, .f32⟩
  | 40 => ⟨S128x512, .f32⟩
  | 41 => ⟨S_, .f32⟩
  | 42 => ⟨S128x512, .f32⟩
  | 43 => ⟨S128x512, .f32⟩
  | 44 => ⟨S_, .f32⟩
  | 45 => ⟨S128x512, .f32⟩
  | 46 => ⟨S128x512, .f32⟩
  | 47 => ⟨S128x512, .f32⟩
  | 48 => ⟨S128x512, .f32⟩
  | 49 => ⟨S128x512, .f32⟩
  | 50 => ⟨S_, .f32⟩
  | 51 => ⟨S128x512, .f32⟩
  | 52 => ⟨S128x512, .f32⟩
  | 53 => ⟨S128x512, .f32⟩
  | 54 => ⟨S128x512, .f32⟩
  | 55 => ⟨S128x512, .f32⟩
  | 56 => ⟨S128x1x512, .f32⟩
  | 57 => ⟨S512x3000, .f32⟩
  | 58 => ⟨S128x1x3000, .f32⟩
  | 59 => ⟨S1x1x3000, .f32⟩
  | 60 => ⟨S128x1x3000, .f32⟩
  | 61 => ⟨S128x1x3000, .f32⟩
  | 62 => ⟨S512x512, .f32⟩
  | 63 => ⟨S128x128x512, .f32⟩
  | 64 => ⟨S1x1x512, .f32⟩
  | 65 => ⟨S128x128x512, .f32⟩
  | 66 => ⟨S128x128x512, .f32⟩
  | 67 => ⟨S128x128x512, .f32⟩
  | 68 => ⟨S128x1x128, .f32⟩
  | 69 => ⟨S_, .f32⟩
  | 70 => ⟨S_, .f32⟩
  | 71 => ⟨S128x1x128, .f32⟩
  | 72 => ⟨S128x1x128, .f32⟩
  | 73 => ⟨S128x1x3128, .f32⟩
  | 74 => ⟨S128x1x6128, .f32⟩
  | 75 => ⟨S_, .f32⟩
  | 76 => ⟨S128x1, .f32⟩
  | 77 => ⟨S_, .f32⟩
  | 78 => ⟨S128x1, .f32⟩
  | 79 => ⟨S128x1, .f32⟩
  | 80 => ⟨S128x1x1, .f32⟩
  | 81 => ⟨S128x1x6128, .f32⟩
  | 82 => ⟨S128x1x6128, .f32⟩
  | 83 => ⟨S128x1x6128, .f32⟩
  | 84 => ⟨S_, .f32⟩
  | 85 => ⟨S128x1, .f32⟩
  | 86 => ⟨S128x1x1, .f32⟩
  | 87 => ⟨S128x1x1, .f32⟩
  | 88 => ⟨S128x1x6128, .f32⟩
  | 89 => ⟨S128x1x6128, .f32⟩
  | 90 => ⟨S128x1x3000, .f32⟩
  | 91 => ⟨S128x1x3000, .f32⟩
  | 92 => ⟨S128x1x128, .f32⟩
  | 93 => ⟨S_, .i32⟩
  | 94 => ⟨S128x128, .i32⟩
  | 95 => ⟨S128x128, .i1⟩
  | 96 => ⟨S128x1x128, .i1⟩
  | 97 => ⟨S128x1x128, .f32⟩
  | 98 => ⟨S_, .f32⟩
  | 99 => ⟨S_, .f32⟩
  | 100 => ⟨S128x1x128, .f32⟩
  | 101 => ⟨S128x1x128, .f32⟩
  | 102 => ⟨S_, .f32⟩
  | 103 => ⟨S128x1x3400, .f32⟩
  | 104 => ⟨S128, .i32⟩
  | 105 => ⟨S128x1, .i32⟩
  | 106 => ⟨S128x128, .f32⟩
  | 107 => ⟨S_, .i32⟩
  | 108 => ⟨S128x1, .i32⟩
  | 109 => ⟨S128x1, .i1⟩
  | 110 => ⟨S_, .i32⟩
  | 111 => ⟨S128x1, .i32⟩
  | 112 => ⟨S128x1, .i32⟩
  | 113 => ⟨S128x1, .i32⟩
  | 114 => ⟨S_, .i32⟩
  | 115 => ⟨S128x128, .i32⟩
  | 116 => ⟨S128x128, .i1⟩
  | 117 => ⟨S_, .i32⟩
  | 118 => ⟨S128x128, .i32⟩
  | 119 => ⟨S128x128, .i32⟩
  | 120 => ⟨S128x128, .i32⟩
  | 121 => ⟨S128x128, .i32⟩
  | 122 => ⟨S_, .i32⟩
  | 123 => ⟨S128x128, .i32⟩
  | 124 => ⟨S128x128, .i32⟩
  | 125 => ⟨S128x128x1, .i32⟩
  | 126 => ⟨S128x128x1, .i32⟩
  | 127 => ⟨S128x128x1, .i32⟩
  | _ => ⟨S128x1, .i32⟩

abbrev hbmTy0_2 (i : Nat) : BufTy := match i % 128 with
  | 0 => ⟨S128x128x3, .i32⟩
  | 1 => ⟨S128x1x3400, .f32⟩
  | 2 => ⟨S_, .f32⟩
  | 3 => ⟨S128x1x3400, .f32⟩
  | 4 => ⟨S128x1x3400, .i1⟩
  | 5 => ⟨S_, .f32⟩
  | 6 => ⟨S128x1x3400, .f32⟩
  | 7 => ⟨S128x1x3400, .f32⟩
  | 8 => ⟨S128x1x3400, .f32⟩
  | 9 => ⟨S_, .f32⟩
  | 10 => ⟨S_, .f32⟩
  | 11 => ⟨S128x1x3400, .f32⟩
  | 12 => ⟨S128x1x3400, .f32⟩
  | 13 => ⟨S128x1x3000, .f32⟩
  | 14 => ⟨S128x1x3000, .f32⟩
  | 15 => ⟨S128x1x3000, .i1⟩
  | 16 => ⟨S128x1x3000, .f32⟩
  | 17 => ⟨S128x1x3000, .f32⟩
  | 18 => ⟨S128x1x3000, .f32⟩
  | 19 => ⟨S128x1x3000, .f32⟩
  | 20 => ⟨S128x1x3000, .f32⟩
  | 21 => ⟨S128x1x3000, .f32⟩
  | 22 => ⟨S128x1x3000, .f32⟩
  | 23 => ⟨S_, .i32⟩
  | 24 => ⟨S1, .i32⟩
  | 25 => ⟨S128x1x3400, .f32⟩
  | _ => ⟨S128x1, .i32⟩

abbrev hbmTy (i : Nat) : BufTy := match i / 128 with
  | 0 => hbmTy0_0 i
  | 1 => hbmTy0_1 i
  | 2 => hbmTy0_2 i
  | _ => ⟨S128x1, .i32⟩

abbrev bufTy : (tb : Table) → Fin (tcTables nBuf tb) → BufTy
  | .hbm, ⟨i, _⟩ => hbmTy i
  | _, _ => ⟨S128x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_c : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst : Ref sig .tc := ⟨.hbm, 57, rfl⟩
abbrev main_call0_v0 : Ref sig .tc := ⟨.hbm, 58, rfl⟩
abbrev main_call0_v1 : Ref sig .tc := ⟨.hbm, 59, rfl⟩
abbrev main_v29 : Ref sig .tc := ⟨.hbm, 60, rfl⟩
abbrev main_cst_4 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_6 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_7 : Ref sig .tc := ⟨.hbm, 88, rfl⟩
abbrev main_call1_v0 : Ref sig .tc := ⟨.hbm, 89, rfl⟩
abbrev main_call1_v1 : Ref sig .tc := ⟨.hbm, 90, rfl⟩
abbrev main_v54 : Ref sig .tc := ⟨.hbm, 91, rfl⟩
abbrev main_cst_8 : Ref sig .tc := ⟨.hbm, 92, rfl⟩
abbrev main_v55 : Ref sig .tc := ⟨.hbm, 93, rfl⟩
abbrev main_cst_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_10 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_11 : Ref sig .tc := ⟨.hbm, 119, rfl⟩
abbrev main_call2_v0 : Ref sig .tc := ⟨.hbm, 120, rfl⟩
abbrev main_call2_v1 : Ref sig .tc := ⟨.hbm, 121, rfl⟩
abbrev main_v79 : Ref sig .tc := ⟨.hbm, 122, rfl⟩
abbrev main_cst_12 : Ref sig .tc := ⟨.hbm, 123, rfl⟩
abbrev main_v80 : Ref sig .tc := ⟨.hbm, 124, rfl⟩
abbrev main_cst_13 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_14 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_15 : Ref sig .tc := ⟨.hbm, 160, rfl⟩
abbrev main_v114 : Ref sig .tc := ⟨.hbm, 161, rfl⟩
abbrev main_v115 : Ref sig .tc := ⟨.hbm, 162, rfl⟩
abbrev main_cst_16 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_17 : Ref sig .tc := ⟨.hbm, 169, rfl⟩
abbrev main_v121 : Ref sig .tc := ⟨.hbm, 170, rfl⟩
abbrev main_v122 : Ref sig .tc := ⟨.hbm, 171, rfl⟩
abbrev main_cst_18 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_19 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_20 : Ref sig .tc := ⟨.hbm, 197, rfl⟩
abbrev main_call3_v0 : Ref sig .tc := ⟨.hbm, 198, rfl⟩
abbrev main_call3_v1 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_call4_cst : Ref sig .tc := ⟨.hbm, 203, rfl⟩
abbrev main_call4_v0 : Ref sig .tc := ⟨.hbm, 204, rfl⟩
abbrev main_call4_cst_0 : Ref sig .tc := ⟨.hbm, 205, rfl⟩
abbrev main_call4_v1 : Ref sig .tc := ⟨.hbm, 206, rfl⟩
abbrev main_call4_v2 : Ref sig .tc := ⟨.hbm, 207, rfl⟩
abbrev main_call4_v3 : Ref sig .tc := ⟨.hbm, 208, rfl⟩
abbrev main_call4_v4 : Ref sig .tc := ⟨.hbm, 209, rfl⟩
abbrev main_call4_v5 : Ref sig .tc := ⟨.hbm, 210, rfl⟩
abbrev main_call4_v6 : Ref sig .tc := ⟨.hbm, 211, rfl⟩
abbrev main_call4_cst_1 : Ref sig .tc := ⟨.hbm, 212, rfl⟩
abbrev main_call4_v7 : Ref sig .tc := ⟨.hbm, 213, rfl⟩
abbrev main_call4_v8 : Ref sig .tc := ⟨.hbm, 214, rfl⟩
abbrev main_call4_v9 : Ref sig .tc := ⟨.hbm, 215, rfl⟩
abbrev main_call4_v10 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_c_21 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_22 : Ref sig .tc := ⟨.hbm, 226, rfl⟩
abbrev main_call5_v0 : Ref sig .tc := ⟨.hbm, 227, rfl⟩
abbrev main_call5_v1 : Ref sig .tc := ⟨.hbm, 228, rfl⟩
abbrev main_v157 : Ref sig .tc := ⟨.hbm, 229, rfl⟩
abbrev main_cst_23 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_c_24 : Ref sig .tc := ⟨.hbm, 235, rfl⟩
abbrev main_v162 : Ref sig .tc := ⟨.hbm, 236, rfl⟩
abbrev main_v163 : Ref sig .tc := ⟨.hbm, 237, rfl⟩
abbrev main_c_25 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_c_26 : Ref sig .tc := ⟨.hbm, 242, rfl⟩
abbrev main_v167 : Ref sig .tc := ⟨.hbm, 243, rfl⟩
abbrev main_v168 : Ref sig .tc := ⟨.hbm, 244, rfl⟩
abbrev main_c_27 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_c_28 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_cst_29 : Ref sig .tc := ⟨.hbm, 258, rfl⟩
abbrev main_v180 : Ref sig .tc := ⟨.hbm, 259, rfl⟩
abbrev main_v181 : Ref sig .tc := ⟨.hbm, 260, rfl⟩
abbrev main_cst_30 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_cst_31 : Ref sig .tc := ⟨.hbm, 265, rfl⟩
abbrev main_call6_v0 : Ref sig .tc := ⟨.hbm, 266, rfl⟩
abbrev main_call6_v1 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_c_32 : Ref sig .tc := ⟨.hbm, 279, rfl⟩
abbrev main_v196 : Ref sig .tc := ⟨.hbm, 280, rfl⟩
abbrev main_v197 : Ref sig .tc := ⟨.hbm, 281, rfl⟩

abbrev nD : Nat := 1
abbrev τ : Topo := Topo.v7x

variable {F : FTy → Type} [FloatOps F]
-- ==== Proof.KernelIdeal.Attn.lean ====
/-
  The attention kernel's body, and the data its pipeline is proved over.

  At a grid point the body reads eight previous words out of scalar memory, copies their rows of the embedding table into
  the first 512 lanes of the result block, copies the pointer row into the last 32 lanes, and attends over three sources into
  the three 512-lane stretches between. `attnOut` is the block it leaves, as a list of the twelve stores.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F] [Named F]

local notation "𝕄" => MT nD τ sig Unit (Elt F) ℕ (UR sig nD τ) ℕ

/-! ## The block the body leaves -/

/-- The previous word at one cell of the column of previous words. -/
abbrev word (w : Vec F S128x1 .i32) (off : Fin 2 → ℕ) (h : ∀ a, off a + S1x1.size a ≤ S128x1.size a) : BitVec 32 :=
  View.ld w (Rect.unit (s := S128x1) off S1x1.size h) (Shape.Idx.first (numel1_S1x1.symm ▸ Nat.one_pos))

/-- Every word of the column names a row of the embedding table. -/
def InTable (w : Vec F S128x1 .i32) : Prop := ∀ y, k0_chk1 (w y)

/-- The row of the embedding table a word names. -/
abbrev row (emb : Vec F S3000x512 .f32) (v : BitVec 32) (hv : k0_chk1 v) : Vec F S1x512 .f32 :=
  View.ld emb (Rect.unit (s := S3000x512) (k0_off2 v) S1x512.size (k0_off2_inb v hv))

abbrev rWide : Rect S8x1x2080 := Rect.unit (s := S8x1x2080) ![0, 0, 512] S8x1x512.size inb_S8x1x2080_S8x1x512_0_0_512
abbrev rMid : Rect S8x1x2080 := Rect.unit (s := S8x1x2080) ![0, 0, 1024] S8x1x512.size inb_S8x1x2080_S8x1x512_0_0_1024
abbrev rNarrow : Rect S8x1x2080 := Rect.unit (s := S8x1x2080) ![0, 0, 1536] S8x1x512.size inb_S8x1x2080_S8x1x512_0_0_1536
abbrev rPtr : Rect S8x1x2080 := Rect.unit (s := S8x1x2080) ![0, 0, 2048] S8x1x32.size inb_S8x1x2080_S8x1x32_0_0_2048
abbrev rRow0 : Rect S8x1x2080 := Rect.unit (s := S8x1x2080) ![0, 0, 0] S1x1x512.size inb_S8x1x2080_S1x1x512_0_0_0
abbrev rRow1 : Rect S8x1x2080 := Rect.unit (s := S8x1x2080) ![1, 0, 0] S1x1x512.size inb_S8x1x2080_S1x1x512_1_0_0
abbrev rRow2 : Rect S8x1x2080 := Rect.unit (s := S8x1x2080) ![2, 0, 0] S1x1x512.size inb_S8x1x2080_S1x1x512_2_0_0
abbrev rRow3 : Rect S8x1x2080 := Rect.unit (s := S8x1x2080) ![3, 0, 0] S1x1x512.size inb_S8x1x2080_S1x1x512_3_0_0
abbrev rRow4 : Rect S8x1x2080 := Rect.unit (s := S8x1x2080) ![4, 0, 0] S1x1x512.size inb_S8x1x2080_S1x1x512_4_0_0
abbrev rRow5 : Rect S8x1x2080 := Rect.unit (s := S8x1x2080) ![5, 0, 0] S1x1x512.size inb_S8x1x2080_S1x1x512_5_0_0
abbrev rRow6 : Rect S8x1x2080 := Rect.unit (s := S8x1x2080) ![6, 0, 0] S1x1x512.size inb_S8x1x2080_S1x1x512_6_0_0
abbrev rRow7 : Rect S8x1x2080 := Rect.unit (s := S8x1x2080) ![7, 0, 0] S1x1x512.size inb_S8x1x2080_S1x1x512_7_0_0

/-- The half of the scoring matrix that meets the encoder states. -/
abbrev encHalf (W : Vec F S1024x512 .f32) : FVec F S512x512 .f32 :=
  k0_pay11 (View.ld W (Rect.unit (s := S1024x512) ![512, 0] S512x512.size inb_S1024x512_S512x512_512_0))
/-- The hidden state through the other half. -/
abbrev hidPart (W : Vec F S1024x512 .f32) (h : Vec F S8x512 .f32) : FVec F S8x512 .f32 :=
  k0_pay12 (View.ld W (Rect.unit (s := S1024x512) ![0, 0] S512x512.size inb_S1024x512_S512x512_0_0)) (View.ld h (Rect.unit (s := S8x512) ![0, 0] S8x512.size inb_S8x512_S8x512_0_0))
/-- A row of 512 lanes as loaded. -/
abbrev lanes (b : Vec F S1x512 .f32) : Vec F S1x512 .f32 := View.ld b (Rect.unit (s := S1x512) ![0, 0] S1x512.size inb_S1x512_S1x512_0_0)

/-- The attention over the first source (256 positions). -/
def attWide (x1 : Vec F S8x512 .f32) (x2 : Vec F S8x256x512 .f32) (x5 : Vec F S8x256x1 .i32) (x9 : Vec F S1024x512 .f32) (x10 : Vec F S1x512 .f32) (x11 : Vec F S1x512 .f32) : FVec F S8x1x512 .f32 :=
  k0_pay14 (encHalf x9) (hidPart x9 x1) (lanes x10) (lanes x11) (View.ld x2 (Rect.unit (s := S8x256x512) ![0, 0, 0] S8x256x512.size inb_S8x256x512_S8x256x512_0_0_0)) (View.ld x5 (Rect.unit (s := S8x256x1) ![0, 0, 0] S8x256x1.size inb_S8x256x1_S8x256x1_0_0_0))
/-- The attention over the second source (128 positions). -/
def attMid (x1 : Vec F S8x512 .f32) (x3 : Vec F S8x128x512 .f32) (x6 : Vec F S8x128x1 .i32) (x9 : Vec F S1024x512 .f32) (x10 : Vec F S1x512 .f32) (x11 : Vec F S1x512 .f32) : FVec F S8x1x512 .f32 :=
  k0_pay15 (encHalf x9) (k0_pay13 (hidPart x9 x1) (lanes x10)) (lanes x11) (View.ld x3 (Rect.unit (s := S8x128x512) ![0, 0, 0] S8x128x512.size inb_S8x128x512_S8x128x512_0_0_0)) (View.ld x6 (Rect.unit (s := S8x128x1) ![0, 0, 0] S8x128x1.size inb_S8x128x1_S8x128x1_0_0_0))
/-- The attention over the third source (64 positions). -/
def attNarrow (x1 : Vec F S8x512 .f32) (x4 : Vec F S8x64x512 .f32) (x7 : Vec F S8x64x1 .i32) (x9 : Vec F S1024x512 .f32) (x10 : Vec F S1x512 .f32) (x11 : Vec F S1x512 .f32) : FVec F S8x1x512 .f32 :=
  k0_pay1 (View.ld x4 (Rect.unit (s := S8x64x512) ![0, 0, 0] S8x64x512.size inb_S8x64x512_S8x64x512_0_0_0)) (k0_pay16 (encHalf x9) (k0_pay13 (hidPart x9 x1) (lanes x10)) (View.ld x4 (Rect.unit (s := S8x64x512) ![0, 0, 0] S8x64x512.size inb_S8x64x512_S8x64x512_0_0_0))) (k0_pay17 (lanes x11)) (View.ld x7 (Rect.unit (s := S8x64x1) ![0, 0, 0] S8x64x1.size inb_S8x64x1_S8x64x1_0_0_0))

/-- The block as its twelve stores, last first, over the values they store. -/
abbrev pieces (aW aM aN : FVec F S8x1x512 .f32) (pt : FVec F S8x1x32 .f32) (e0 e1 e2 e3 e4 e5 e6 e7 : FVec F S1x1x512 .f32) : List (View.Piece (Elt F) S8x1x2080 .f32) :=
  [⟨rNarrow, aN⟩, ⟨rMid, aM⟩, ⟨rWide, aW⟩, ⟨rPtr, pt⟩, ⟨rRow7, e7⟩, ⟨rRow6, e6⟩, ⟨rRow5, e5⟩, ⟨rRow4, e4⟩, ⟨rRow3, e3⟩, ⟨rRow2, e2⟩, ⟨rRow1, e1⟩, ⟨rRow0, e0⟩]

/-- The block the body leaves at grid point `i`. -/
def attnOut (i : grid0.Coords) (x0 : Vec F S128x1 .i32) (x1 : Vec F S8x512 .f32) (x2 : Vec F S8x256x512 .f32) (x3 : Vec F S8x128x512 .f32) (x4 : Vec F S8x64x512 .f32) (x5 : Vec F S8x256x1 .i32) (x6 : Vec F S8x128x1 .i32) (x7 : Vec F S8x64x1 .i32) (x8 : Vec F S8x1x32 .f32) (x9 : Vec F S1024x512 .f32) (x10 : Vec F S1x512 .f32) (x11 : Vec F S1x512 .f32) (x12 : Vec F S3000x512 .f32) (hw : InTable x0) : Vec F S8x1x2080 .f32 :=
  View.canon (pieces (attWide x1 x2 x5 x9 x10 x11) (attMid x1 x3 x6 x9 x10 x11) (attNarrow x1 x4 x7 x9 x10 x11)
    (k0_pay10 (View.ld x8 (Rect.unit (s := S8x1x32) ![0, 0, 0] S8x1x32.size inb_S8x1x32_S8x1x32_0_0_0)))
    (k0_pay2 (row x12 (word x0 (k0_off1 i) (k0_off1_inb i)) (hw _)))
    (k0_pay3 (row x12 (word x0 (k0_off3 i) (k0_off3_inb i)) (hw _)))
    (k0_pay4 (row x12 (word x0 (k0_off5 i) (k0_off5_inb i)) (hw _)))
    (k0_pay5 (row x12 (word x0 (k0_off7 i) (k0_off7_inb i)) (hw _)))
    (k0_pay6 (row x12 (word x0 (k0_off9 i) (k0_off9_inb i)) (hw _)))
    (k0_pay7 (row x12 (word x0 (k0_off11 i) (k0_off11_inb i)) (hw _)))
    (k0_pay8 (row x12 (word x0 (k0_off13 i) (k0_off13_inb i)) (hw _)))
    (k0_pay9 (row x12 (word x0 (k0_off15 i) (k0_off15_inb i)) (hw _))))

/-- The twelve stores cover the block. -/
theorem cover (aW aM aN : FVec F S8x1x512 .f32) (pt : FVec F S8x1x32 .f32) (e0 e1 e2 e3 e4 e5 e6 e7 : FVec F S1x1x512 .f32) (y : S8x1x2080.Idx) :
    ∃ pc ∈ pieces aW aM aN pt e0 e1 e2 e3 e4 e5 e6 e7, y ∈ pc.1.set :=
  View.cover_of_tiledBy _ ![1, 1, 32] (by sl_kernel_rfl) y

/-! ## The body's triple -/

set_option maxHeartbeats 4000000 in
/-- The body on its thirteen inputs and any result buffer runs to its end, leaving the inputs as they were and the result
    buffer at `attnOut`, when every previous word names a row of the table. -/
theorem triple (c : Dev nD) (E : Set ℕ) (i : grid0.Coords) (arg1 : Memref sig .tc .smem S128x1 .i32) (harg1 : arg1.IsWhole) (arg2 : Memref sig .tc .vmem S8x512 .f32) (harg2 : arg2.IsWhole) (arg3 : Memref sig .tc .vmem S8x256x512 .f32) (harg3 : arg3.IsWhole) (arg4 : Memref sig .tc .vmem S8x128x512 .f32) (harg4 : arg4.IsWhole) (arg5 : Memref sig .tc .vmem S8x64x512 .f32) (harg5 : arg5.IsWhole) (arg6 : Memref sig .tc .vmem S8x256x1 .i32) (harg6 : arg6.IsWhole) (arg7 : Memref sig .tc .vmem S8x128x1 .i32) (harg7 : arg7.IsWhole) (arg8 : Memref sig .tc .vmem S8x64x1 .i32) (harg8 : arg8.IsWhole) (arg9 : Memref sig .tc .vmem S8x1x32 .f32) (harg9 : arg9.IsWhole) (arg10 : Memref sig .tc .vmem S1024x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S3000x512 .f32) (harg13 : arg13.IsWhole) (arg14 : Memref sig .tc .vmem S8x1x2080 .f32) (harg14 : arg14.IsWhole)
    (x0 : Vec F S128x1 .i32) (x1 : Vec F S8x512 .f32) (x2 : Vec F S8x256x512 .f32) (x3 : Vec F S8x128x512 .f32) (x4 : Vec F S8x64x512 .f32) (x5 : Vec F S8x256x1 .i32) (x6 : Vec F S8x128x1 .i32) (x7 : Vec F S8x64x1 .i32) (x8 : Vec F S8x1x32 .f32) (x9 : Vec F S1024x512 .f32) (x10 : Vec F S1x512 .f32) (x11 : Vec F S1x512 .f32) (x12 : Vec F S3000x512 .f32)
    (hw : InTable x0) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (attnOut i x0 x1 x2 x3 x4 x5 x6 x7 x8 x9 x10 x11 x12 hw)) -∗ K ⟨⟩))
      ⊢ wp frame (wpE (defs₀ (F := F)) Variants.none c none) E (cc0_act_span_attn i arg1 harg1 arg2 harg2 arg3 harg3 arg4 harg4 arg5 harg5 arg6 harg6 arg7 harg7 arg8 harg8 arg9 harg9 arg10 harg10 arg11 harg11 arg12 harg12 arg13 harg13 arg14 harg14) K := by
  have hw1 : k0_chk1 (word x0 (k0_off1 i) (k0_off1_inb i)) := hw _
  have hw2 : k0_chk2 (word x0 (k0_off3 i) (k0_off3_inb i)) := hw _
  have hw3 : k0_chk3 (word x0 (k0_off5 i) (k0_off5_inb i)) := hw _
  have hw4 : k0_chk4 (word x0 (k0_off7 i) (k0_off7_inb i)) := hw _
  have hw5 : k0_chk5 (word x0 (k0_off9 i) (k0_off9_inb i)) := hw _
  have hw6 : k0_chk6 (word x0 (k0_off11 i) (k0_off11_inb i)) := hw _
  have hw7 : k0_chk7 (word x0 (k0_off13 i) (k0_off13_inb i)) := hw _
  have hw8 : k0_chk8 (word x0 (k0_off15 i) (k0_off15_inb i)) := hw _
  simp only [cc0_act_span_attn_eq_skeleton]; unfold cc0_act_span_attn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec (disch := first | exact hw1 | exact hw2 | exact hw3 | exact hw4 | exact hw5 | exact hw6 | exact hw7 | exact hw8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  refine (View.read_writes_eq_canon _ _ _ (cover _ _ _ _ _ _ _ _ _ _ _ _)).trans ?_
  rfl

/-! ## The pipeline's data -/

variable (V : Dev nD → Valuation τ sig (Elt F))

/-- Input window `w`'s block at point `t`, of its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pipeline's proof data on core `c`: the arrays as the call finds them, each input's buffer left at its block and the
    result's at the body's value; the rest of the region untouched, nothing owed, whole shares. -/
def dat (H : ∀ c t, InTable (blk V c 0 t)) (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => blk V c 12 t
    | ⟨13, _⟩ => attnOut (grid0.coords t) (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (H c t)
  Φ _ := Pipeline.scopedRest (Ix := Unit) (Name := ℕ) (U := UR sig nD τ) (Lvl := ℕ) spec0 c
  q _ := fullShare
  owed _ := 0

variable (H : ∀ c t, InTable (blk V c 0 t))

theorem A_eq (c : Dev nD) (w : Fin cfg0.W) : (dat V H c).A w = V c (Pipeline.arrRef spec0 w) := by
  dsimp only [dat]

theorem after_0 (c : Dev nD) (t : Fin cfg0.N) : (dat V H c).after 0 t = blk V c 0 t := by dsimp only [dat]
theorem after_1 (c : Dev nD) (t : Fin cfg0.N) : (dat V H c).after 1 t = blk V c 1 t := by dsimp only [dat]
theorem after_2 (c : Dev nD) (t : Fin cfg0.N) : (dat V H c).after 2 t = blk V c 2 t := by dsimp only [dat]
theorem after_3 (c : Dev nD) (t : Fin cfg0.N) : (dat V H c).after 3 t = blk V c 3 t := by dsimp only [dat]
theorem after_4 (c : Dev nD) (t : Fin cfg0.N) : (dat V H c).after 4 t = blk V c 4 t := by dsimp only [dat]
theorem after_5 (c : Dev nD) (t : Fin cfg0.N) : (dat V H c).after 5 t = blk V c 5 t := by dsimp only [dat]
theorem after_6 (c : Dev nD) (t : Fin cfg0.N) : (dat V H c).after 6 t = blk V c 6 t := by dsimp only [dat]
theorem after_7 (c : Dev nD) (t : Fin cfg0.N) : (dat V H c).after 7 t = blk V c 7 t := by dsimp only [dat]
theorem after_8 (c : Dev nD) (t : Fin cfg0.N) : (dat V H c).after 8 t = blk V c 8 t := by dsimp only [dat]
theorem after_9 (c : Dev nD) (t : Fin cfg0.N) : (dat V H c).after 9 t = blk V c 9 t := by dsimp only [dat]
theorem after_10 (c : Dev nD) (t : Fin cfg0.N) : (dat V H c).after 10 t = blk V c 10 t := by dsimp only [dat]
theorem after_11 (c : Dev nD) (t : Fin cfg0.N) : (dat V H c).after 11 t = blk V c 11 t := by dsimp only [dat]
theorem after_12 (c : Dev nD) (t : Fin cfg0.N) : (dat V H c).after 12 t = blk V c 12 t := by dsimp only [dat]
theorem after_13 (c : Dev nD) (t : Fin cfg0.N) : (dat V H c).after 13 t = attnOut (grid0.coords t) (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (H c t) := by dsimp only [dat]

theorem before_0 (c : Dev nD) (t : Fin cfg0.N) (d) : (dat V H c).before 0 t d = blk V c 0 t :=
  ((dat V H c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V H c).before 1 t d = blk V c 1 t :=
  ((dat V H c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V H c).before 2 t d = blk V c 2 t :=
  ((dat V H c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg0.N) (d) : (dat V H c).before 3 t d = blk V c 3 t :=
  ((dat V H c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg0.N) (d) : (dat V H c).before 4 t d = blk V c 4 t :=
  ((dat V H c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem before_5 (c : Dev nD) (t : Fin cfg0.N) (d) : (dat V H c).before 5 t d = blk V c 5 t :=
  ((dat V H c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)
theorem before_6 (c : Dev nD) (t : Fin cfg0.N) (d) : (dat V H c).before 6 t d = blk V c 6 t :=
  ((dat V H c).before_in_eq_fetched 6 rfl (fun _ => rfl) (fun _ _ _ => rfl)
    (fun t => by rw [after_6]; unfold Dat.blockOf blk; rw [A_eq]; try rfl) t d).trans
    (by unfold Dat.fetched Dat.blockOf blk; rw [A_eq]; try rfl)
theorem before_7 (c : Dev nD) (t : Fin cfg0.N) (d) : (dat V H c).before 7 t d = blk V c 7 t :=
  ((dat V H c).before_in_eq_fetched 7 rfl (fun _ => rfl) (fun _ _ _ => rfl)
    (fun t => by rw [after_7]; unfold Dat.blockOf blk; rw [A_eq]; try rfl) t d).trans
    (by unfold Dat.fetched Dat.blockOf blk; rw [A_eq]; try rfl)
theorem before_8 (c : Dev nD) (t : Fin cfg0.N) (d) : (dat V H c).before 8 t d = blk V c 8 t :=
  ((dat V H c).before_in_eq_fetched 8 rfl (fun _ => rfl) (fun _ _ _ => rfl)
    (fun t => by rw [after_8]; unfold Dat.blockOf blk; rw [A_eq]; try rfl) t d).trans
    (by unfold Dat.fetched Dat.blockOf blk; rw [A_eq]; try rfl)
theorem before_9 (c : Dev nD) (t : Fin cfg0.N) (d) : (dat V H c).before 9 t d = blk V c 9 t :=
  ((dat V H c).before_in_eq_fetched 9 rfl (fun _ => rfl) (fun _ _ _ => rfl)
    (fun t => by rw [after_9]; unfold Dat.blockOf blk; rw [A_eq]; try rfl) t d).trans
    (by unfold Dat.fetched Dat.blockOf blk; rw [A_eq]; try rfl)
theorem before_10 (c : Dev nD) (t : Fin cfg0.N) (d) : (dat V H c).before 10 t d = blk V c 10 t :=
  ((dat V H c).before_in_eq_fetched 10 rfl (fun _ => rfl) (fun _ _ _ => rfl)
    (fun t => by rw [after_10]; unfold Dat.blockOf blk; rw [A_eq]; try rfl) t d).trans
    (by unfold Dat.fetched Dat.blockOf blk; rw [A_eq]; try rfl)
theorem before_11 (c : Dev nD) (t : Fin cfg0.N) (d) : (dat V H c).before 11 t d = blk V c 11 t :=
  ((dat V H c).before_in_eq_fetched 11 rfl (fun _ => rfl) (fun _ _ _ => rfl)
    (fun t => by rw [after_11]; unfold Dat.blockOf blk; rw [A_eq]; try rfl) t d).trans
    (by unfold Dat.fetched Dat.blockOf blk; rw [A_eq]; try rfl)
theorem before_12 (c : Dev nD) (t : Fin cfg0.N) (d) : (dat V H c).before 12 t d = blk V c 12 t :=
  ((dat V H c).before_in_eq_fetched 12 rfl (fun _ => rfl) (fun _ _ _ => rfl)
    (fun t => by rw [after_12]; unfold Dat.blockOf blk; rw [A_eq]; try rfl) t d).trans
    (by unfold Dat.fetched Dat.blockOf blk; rw [A_eq]; try rfl)

/-! ## The body at a grid point -/

/-- What the body is called with at point `t`, -/
def bodyPre (c : Dev nD) (t : Fin cfg0.N) : sProp 𝕄 :=
  iprop((dat V H c).Φ t.castSucc ∗ (dat V H c).owesAt () t.castSucc
    ∗ (∃ d, owns (c : Thread nD τ) (st0_0 t) fullShare ((dat V H c).before 0 t d))
    ∗ (∃ d, owns (c : Thread nD τ) (st0_1 t) fullShare ((dat V H c).before 1 t d))
    ∗ (∃ d, owns (c : Thread nD τ) (st0_2 t) fullShare ((dat V H c).before 2 t d))
    ∗ (∃ d, owns (c : Thread nD τ) (st0_3 t) fullShare ((dat V H c).before 3 t d))
    ∗ (∃ d, owns (c : Thread nD τ) (st0_4 t) fullShare ((dat V H c).before 4 t d))
    ∗ (∃ d, owns (c : Thread nD τ) (st0_5 t) fullShare ((dat V H c).before 5 t d))
    ∗ (∃ d, owns (c : Thread nD τ) (st0_6 t) fullShare ((dat V H c).before 6 t d))
    ∗ (∃ d, owns (c : Thread nD τ) (st0_7 t) fullShare ((dat V H c).before 7 t d))
    ∗ (∃ d, owns (c : Thread nD τ) (st0_8 t) fullShare ((dat V H c).before 8 t d))
    ∗ (∃ d, owns (c : Thread nD τ) (st0_9 t) fullShare ((dat V H c).before 9 t d))
    ∗ (∃ d, owns (c : Thread nD τ) (st0_10 t) fullShare ((dat V H c).before 10 t d))
    ∗ (∃ d, owns (c : Thread nD τ) (st0_11 t) fullShare ((dat V H c).before 11 t d))
    ∗ (∃ d, owns (c : Thread nD τ) (st0_12 t) fullShare ((dat V H c).before 12 t d))
    ∗ (∃ d, owns (c : Thread nD τ) (st0_13 t) fullShare ((dat V H c).before 13 t d)))

/-- and what it returns. -/
def bodyPost (c : Dev nD) (t : Fin cfg0.N) : sProp 𝕄 :=
  iprop((dat V H c).Φ t.succ ∗ (dat V H c).owesAt () t.succ
    ∗ owns (c : Thread nD τ) (st0_0 t) fullShare ((dat V H c).after 0 t)
    ∗ owns (c : Thread nD τ) (st0_1 t) fullShare ((dat V H c).after 1 t)
    ∗ owns (c : Thread nD τ) (st0_2 t) fullShare ((dat V H c).after 2 t)
    ∗ owns (c : Thread nD τ) (st0_3 t) fullShare ((dat V H c).after 3 t)
    ∗ owns (c : Thread nD τ) (st0_4 t) fullShare ((dat V H c).after 4 t)
    ∗ owns (c : Thread nD τ) (st0_5 t) fullShare ((dat V H c).after 5 t)
    ∗ owns (c : Thread nD τ) (st0_6 t) fullShare ((dat V H c).after 6 t)
    ∗ owns (c : Thread nD τ) (st0_7 t) fullShare ((dat V H c).after 7 t)
    ∗ owns (c : Thread nD τ) (st0_8 t) fullShare ((dat V H c).after 8 t)
    ∗ owns (c : Thread nD τ) (st0_9 t) fullShare ((dat V H c).after 9 t)
    ∗ owns (c : Thread nD τ) (st0_10 t) fullShare ((dat V H c).after 10 t)
    ∗ owns (c : Thread nD τ) (st0_11 t) fullShare ((dat V H c).after 11 t)
    ∗ owns (c : Thread nD τ) (st0_12 t) fullShare ((dat V H c).after 12 t)
    ∗ owns (c : Thread nD τ) (st0_13 t) fullShare ((dat V H c).after 13 t))

/-- The body at point `t`: its inputs hold their blocks, so `triple` applies; the rest passes through. -/
theorem body_at (c : Dev nD) (t : Fin cfg0.N) :
    bodyPre V H c t ⊢ wp frame (wpE (defs₀ (F := F)) Variants.none c none) Set.univ (bodyAt0 t) (fun _ => bodyPost V H c t) := by
  unfold bodyPre bodyPost bodyAt0
  simp only [before_0, before_1, before_2, before_3, before_4, before_5, before_6, before_7, before_8, before_9, before_10, before_11, before_12]
  rw [show (dat V H c).Φ t.succ = (dat V H c).Φ t.castSucc from rfl,
    show (dat V H c).owesAt () t.succ = (dat V H c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (triple c Set.univ (grid0.coords t) _ _ _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (H c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t` is the body. -/
theorem defs_row (t : Fin cfg0.N) : defs₀ (F := F) .tc cfg0.body (cfg0.bodyArgs t (cfg0.slots t)) = bodyAt0 t := by
  unfold defs₀; rw [Defs.onTc_tc]

/-- The body obligation of the pipeline, at every point. -/
theorem obligation (c : Dev nD) : BodyObligation (dat (F := F) V H c) (defs₀ (F := F)) Variants.none () Set.univ := fun t => by
  rw [bigSep_W0, bigSep_W0, defs_row]
  exact triple_restated (body_at V H c t) rfl .rfl fun _ => .rfl

end Cert.KernelIdeal.Attn

end
-- ==== Proof.KernelIdeal.Scores.lean ====
/-
  The scoring kernel's body, and the data its pipeline is proved over.

  At a grid point the body runs sixteen rows of the recurrent cell, scores the vocabulary and the copy positions, normalises
  over both, and adds up in the log domain the positions that copy one and the same word. `scoresOut` is the block it leaves.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Scores

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F] [Named F]

local notation "𝕄" => MT nD τ sig Unit (Elt F) ℕ (UR sig nD τ) ℕ

/-! ## The block the body leaves -/

/-- The recurrent cell's new state. -/
def state (x0 : Vec F S16x1x2080 .f32) (x1 : Vec F S16x512 .f32) (x5 : Vec F S2080x1536 .bf16) (x6 : Vec F S512x1536 .bf16) (x7 : Vec F S1x1536 .f32) (x8 : Vec F S1x1536 .f32) : FVec F S16x512 .f32 :=
  k1_pay2 (View.ld x1 (Rect.unit (s := S16x512) ![0, 0] S16x512.size inb_S16x512_S16x512_0_0)) (View.ld x0 (Rect.unit (s := S16x1x2080) ![0, 0, 0] S16x1x2080.size inb_S16x1x2080_S16x1x2080_0_0_0)) (View.ld x5 (Rect.unit (s := S2080x1536) ![0, 0] S2080x1536.size inb_S2080x1536_S2080x1536_0_0)) (View.ld x7 (Rect.unit (s := S1x1536) ![0, 0] S1x1536.size inb_S1x1536_S1x1536_0_0)) (View.ld x6 (Rect.unit (s := S512x1536) ![0, 0] S512x1536.size inb_S512x1536_S512x1536_0_0)) (View.ld x8 (Rect.unit (s := S1x1536) ![0, 0] S1x1536.size inb_S1x1536_S1x1536_0_0))
/-- The vocabulary's scores. -/
def gen (x0 : Vec F S16x1x2080 .f32) (x1 : Vec F S16x512 .f32) (x5 : Vec F S2080x1536 .bf16) (x6 : Vec F S512x1536 .bf16) (x7 : Vec F S1x1536 .f32) (x8 : Vec F S1x1536 .f32) (x11 : Vec F S512x3000 .bf16) (x12 : Vec F S1x3000 .f32) : FVec F S16x3000 .f32 :=
  k1_pay5 (k1_pay3 (View.ld x1 (Rect.unit (s := S16x512) ![0, 0] S16x512.size inb_S16x512_S16x512_0_0)) (View.ld x0 (Rect.unit (s := S16x1x2080) ![0, 0, 0] S16x1x2080.size inb_S16x1x2080_S16x1x2080_0_0_0)) (View.ld x5 (Rect.unit (s := S2080x1536) ![0, 0] S2080x1536.size inb_S2080x1536_S2080x1536_0_0)) (View.ld x7 (Rect.unit (s := S1x1536) ![0, 0] S1x1536.size inb_S1x1536_S1x1536_0_0)) (View.ld x6 (Rect.unit (s := S512x1536) ![0, 0] S512x1536.size inb_S512x1536_S512x1536_0_0)) (View.ld x8 (Rect.unit (s := S1x1536) ![0, 0] S1x1536.size inb_S1x1536_S1x1536_0_0))) (k1_pay4 (View.ld x11 (Rect.unit (s := S512x3000) ![0, 0] S512x3000.size inb_S512x3000_S512x3000_0_0))) (View.ld x12 (Rect.unit (s := S1x3000) ![0, 0] S1x3000.size inb_S1x3000_S1x3000_0_0))
/-- The copy positions' scores, from the new state. -/
def copy (st : FVec F S16x512 .f32) (x2 : Vec F S16x128x512 .f32) (x3 : Vec F S16x1x128 .i32) (x9 : Vec F S512x512 .bf16) (x10 : Vec F S1x512 .f32) : FVec F S16x128 .f32 :=
  k1_pay6 st (View.ld x2 (Rect.unit (s := S16x128x512) ![0, 0, 0] S16x128x512.size inb_S16x128x512_S16x128x512_0_0_0)) (View.ld x9 (Rect.unit (s := S512x512) ![0, 0] S512x512.size inb_S512x512_S512x512_0_0)) (View.ld x10 (Rect.unit (s := S1x512) ![0, 0] S1x512.size inb_S1x512_S1x512_0_0)) (View.ld x3 (Rect.unit (s := S16x1x128) ![0, 0, 0] S16x1x128.size inb_S16x1x128_S16x1x128_0_0_0))
/-- The words the copy positions stand for. -/
def words (x4 : Vec F S16x1x128 .i32) : IVec S16x128 32 := k1_pay7 (View.ld x4 (Rect.unit (s := S16x1x128) ![0, 0, 0] S16x1x128.size inb_S16x1x128_S16x1x128_0_0_0))
/-- The copy positions' scores where they stand for a word outside the vocabulary's list. -/
def slot (st : FVec F S16x512 .f32) (x2 : Vec F S16x128x512 .f32) (x3 : Vec F S16x1x128 .i32) (x4 : Vec F S16x1x128 .i32) (x9 : Vec F S512x512 .bf16) (x10 : Vec F S1x512 .f32) : FVec F S16x128 .f32 :=
  k1_pay8 st (View.ld x2 (Rect.unit (s := S16x128x512) ![0, 0, 0] S16x128x512.size inb_S16x128x512_S16x128x512_0_0_0)) (View.ld x9 (Rect.unit (s := S512x512) ![0, 0] S512x512.size inb_S512x512_S512x512_0_0)) (View.ld x10 (Rect.unit (s := S1x512) ![0, 0] S1x512.size inb_S1x512_S1x512_0_0)) (View.ld x3 (Rect.unit (s := S16x1x128) ![0, 0, 0] S16x1x128.size inb_S16x1x128_S16x1x128_0_0_0)) (View.ld x4 (Rect.unit (s := S16x1x128) ![0, 0, 0] S16x1x128.size inb_S16x1x128_S16x1x128_0_0_0))
/-- The lane numbers. -/
def la : IVec S16x3072 32 := iota .tc S16x3072 32 [1] iota_S16x3072_d1_w32
/-- The lane numbers, `-1` past the vocabulary. -/
def vl : IVec S16x3072 32 := k1_pay9 la 3000#32
/-- The scores of the first 125 copy positions, added up on their words' lanes. -/
def acc (sm : FVec F S16x128 .f32) (nk : IVec S16x128 32) : FVec F S16x3072 .f32 :=
  k1_pay50 sm nk vl (k1_pay48 sm nk vl (k1_pay46 sm nk vl (k1_pay44 sm nk vl (k1_pay42 sm nk vl (k1_pay40 sm nk vl (k1_pay38 sm nk vl (k1_pay36 sm nk vl (k1_pay34 sm nk vl (k1_pay32 sm nk vl (k1_pay30 sm nk vl (k1_pay28 sm nk vl (k1_pay26 sm nk vl (k1_pay24 sm nk vl (k1_pay22 sm nk vl (k1_pay20 sm nk vl (k1_pay18 sm nk vl (k1_pay16 sm nk vl (k1_pay14 sm nk vl (k1_pay12 sm nk vl (k1_pay10 sm nk la 3000#32) (k1_pay11 nk la 3000#32)) (k1_pay13 nk vl)) (k1_pay15 nk vl)) (k1_pay17 nk vl)) (k1_pay19 nk vl)) (k1_pay21 nk vl)) (k1_pay23 nk vl)) (k1_pay25 nk vl)) (k1_pay27 nk vl)) (k1_pay29 nk vl)) (k1_pay31 nk vl)) (k1_pay33 nk vl)) (k1_pay35 nk vl)) (k1_pay37 nk vl)) (k1_pay39 nk vl)) (k1_pay41 nk vl)) (k1_pay43 nk vl)) (k1_pay45 nk vl)) (k1_pay47 nk vl)) (k1_pay49 nk vl)
/-- Whether a lane is the word of copy position 125. -/
def hit (nk : IVec S16x128 32) : IVec S16x3072 1 := k1_pay51 nk vl
/-- The largest score of a row. -/
def mx (gn : FVec F S16x3000 .f32) (sm : FVec F S16x128 .f32) (nk : IVec S16x128 32) (sl : FVec F S16x128 .f32) : FVec F S16x1 .f32 :=
  k1_pay54 gn sm nk sl la vl (acc sm nk) (hit nk)
/-- The sum of the exponentials over the vocabulary and its copies. -/
def zs (gn : FVec F S16x3000 .f32) (sm : FVec F S16x128 .f32) (nk : IVec S16x128 32) (sl : FVec F S16x128 .f32) : FVec F S16x1 .f32 :=
  k1_pay55 gn sm nk sl la vl (acc sm nk) (hit nk)
/-- The exponentials of the remaining copy scores. -/
def ex (gn : FVec F S16x3000 .f32) (sm : FVec F S16x128 .f32) (nk : IVec S16x128 32) (sl : FVec F S16x128 .f32) : FVec F S16x128 .f32 :=
  k1_pay56 gn sm nk sl la vl (acc sm nk) (hit nk)
/-- The words past the vocabulary's list, added up in plain numbers and taken back to logarithms. -/
def oovAcc (sm : FVec F S16x128 .f32) (nk : IVec S16x128 32) (mx zs : FVec F S16x1 .f32) (ex : FVec F S16x128 .f32) (wt : FVec F S16x128 .f32) (ol : IVec S16x512 32) : FVec F S16x512 .f32 :=
  k1_pay103 nk wt ol (k1_pay101 nk wt ol (k1_pay99 nk wt ol (k1_pay97 nk wt ol (k1_pay95 nk wt ol (k1_pay93 nk wt ol (k1_pay91 nk wt ol (k1_pay89 nk wt ol (k1_pay87 nk wt ol (k1_pay85 nk wt ol (k1_pay83 nk wt ol (k1_pay81 nk wt ol (k1_pay79 nk wt ol (k1_pay77 nk wt ol (k1_pay75 nk wt ol (k1_pay73 nk wt ol (k1_pay71 nk wt ol (k1_pay69 nk wt ol (k1_pay67 nk wt ol (k1_pay65 nk wt ol (k1_pay63 nk wt ol (k1_pay61 sm nk mx zs ex) (k1_pay62 nk)) (k1_pay64 nk)) (k1_pay66 nk)) (k1_pay68 nk)) (k1_pay70 nk)) (k1_pay72 nk)) (k1_pay74 nk)) (k1_pay76 nk)) (k1_pay78 nk)) (k1_pay80 nk)) (k1_pay82 nk)) (k1_pay84 nk)) (k1_pay86 nk)) (k1_pay88 nk)) (k1_pay90 nk)) (k1_pay92 nk)) (k1_pay94 nk)) (k1_pay96 nk)) (k1_pay98 nk)) (k1_pay100 nk)) (k1_pay102 nk)
/-- The block of log scores, over the scores it is made of. -/
def logScores (gn : FVec F S16x3000 .f32) (sm : FVec F S16x128 .f32) (nk : IVec S16x128 32) (sl : FVec F S16x128 .f32) : FVec F S16x3400 .f32 :=
  k1_pay105 (k1_pay58 gn (k1_pay52 sm nk vl (acc sm nk) (hit nk)) (mx gn sm nk sl) (zs gn sm nk sl) (ex gn sm nk sl))
    (oovAcc sm nk (mx gn sm nk sl) (zs gn sm nk sl) (ex gn sm nk sl) (k1_pay59 sm nk (mx gn sm nk sl) (zs gn sm nk sl) (ex gn sm nk sl)) k1_pay60) (k1_pay104 (F := F))

abbrev rAll : Rect S16x1x3400 := (Rect.unit (s := S16x1x3400) ![0, 0, 0] S16x1x3400.size inb_S16x1x3400_S16x1x3400_0_0_0)

/-- The block the body leaves. -/
def scoresOut (x0 : Vec F S16x1x2080 .f32) (x1 : Vec F S16x512 .f32) (x2 : Vec F S16x128x512 .f32) (x3 : Vec F S16x1x128 .i32) (x4 : Vec F S16x1x128 .i32) (x5 : Vec F S2080x1536 .bf16) (x6 : Vec F S512x1536 .bf16) (x7 : Vec F S1x1536 .f32) (x8 : Vec F S1x1536 .f32) (x9 : Vec F S512x512 .bf16) (x10 : Vec F S1x512 .f32) (x11 : Vec F S512x3000 .bf16) (x12 : Vec F S1x3000 .f32) : Vec F S16x1x3400 .f32 :=
  View.canon [⟨rAll, k1_pay1 (logScores (gen x0 x1 x5 x6 x7 x8 x11 x12) (copy (state x0 x1 x5 x6 x7 x8) x2 x3 x9 x10) (words x4)
    (slot (state x0 x1 x5 x6 x7 x8) x2 x3 x4 x9 x10))⟩]

/-- The one store covers the block. -/
theorem cover (p : Vec F S16x1x3400 .f32) (y : S16x1x3400.Idx) :
    ∃ pc ∈ ([⟨rAll, p⟩] : List (View.Piece (Elt F) S16x1x3400 .f32)), y ∈ pc.1.set :=
  View.cover_of_tiled [⟨rAll, p⟩] S16x1x3400.size (by rfl) y

/-! ## The body's triple -/

set_option maxHeartbeats 40000000 in
/-- The body on its thirteen inputs and any result buffer runs to its end, leaving the inputs as they were and the result
    buffer at `scoresOut`. -/
theorem triple (c : Dev nD) (E : Set ℕ) (i : grid1.Coords) (arg1 : Memref sig .tc .vmem S16x1x2080 .f32) (harg1 : arg1.IsWhole) (arg2 : Memref sig .tc .vmem S16x512 .f32) (harg2 : arg2.IsWhole) (arg3 : Memref sig .tc .vmem S16x128x512 .f32) (harg3 : arg3.IsWhole) (arg4 : Memref sig .tc .vmem S16x1x128 .i32) (harg4 : arg4.IsWhole) (arg5 : Memref sig .tc .vmem S16x1x128 .i32) (harg5 : arg5.IsWhole) (arg6 : Memref sig .tc .vmem S2080x1536 .bf16) (harg6 : arg6.IsWhole) (arg7 : Memref sig .tc .vmem S512x1536 .bf16) (harg7 : arg7.IsWhole) (arg8 : Memref sig .tc .vmem S1x1536 .f32) (harg8 : arg8.IsWhole) (arg9 : Memref sig .tc .vmem S1x1536 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x3000 .bf16) (harg12 : arg12.IsWhole) (arg13 : Memref sig .tc .vmem S1x3000 .f32) (harg13 : arg13.IsWhole) (arg14 : Memref sig .tc .vmem S16x1x3400 .f32) (harg14 : arg14.IsWhole)
    (x0 : Vec F S16x1x2080 .f32) (x1 : Vec F S16x512 .f32) (x2 : Vec F S16x128x512 .f32) (x3 : Vec F S16x1x128 .i32) (x4 : Vec F S16x1x128 .i32) (x5 : Vec F S2080x1536 .bf16) (x6 : Vec F S512x1536 .bf16) (x7 : Vec F S1x1536 .f32) (x8 : Vec F S1x1536 .f32) (x9 : Vec F S512x512 .bf16) (x10 : Vec F S1x512 .f32) (x11 : Vec F S512x3000 .bf16) (x12 : Vec F S1x3000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (scoresOut x0 x1 x2 x3 x4 x5 x6 x7 x8 x9 x10 x11 x12)) -∗ K ⟨⟩))
      ⊢ wp frame (wpE (defs₀ (F := F)) Variants.none c none) E (cc1_act_span_scores i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_act_span_scores_eq_skeleton]; unfold cc1_act_span_scores_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  refine (View.read_writes_eq_canon _ _ _ (cover _)).trans ?_
  rfl

/-! ## The pipeline's data -/

variable (V : Dev nD → Valuation τ sig (Elt F))

/-- Input window `w`'s block at point `t`, of its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pipeline's proof data on core `c`: the arrays as the call finds them, each input's buffer left at its block and the
    result's at the body's value; the rest of the region untouched, nothing owed, whole shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => blk V c 12 t
    | ⟨13, _⟩ => scoresOut (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t)
  Φ _ := Pipeline.scopedRest (Ix := Unit) (Name := ℕ) (U := UR sig nD τ) (Lvl := ℕ) spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) : (dat V c).after 8 t = blk V c 8 t := by dsimp only [dat]
theorem after_9 (c : Dev nD) (t : Fin cfg1.N) : (dat V c).after 9 t = blk V c 9 t := by dsimp only [dat]
theorem after_10 (c : Dev nD) (t : Fin cfg1.N) : (dat V c).after 10 t = blk V c 10 t := by dsimp only [dat]
theorem after_11 (c : Dev nD) (t : Fin cfg1.N) : (dat V c).after 11 t = blk V c 11 t := by dsimp only [dat]
theorem after_12 (c : Dev nD) (t : Fin cfg1.N) : (dat V c).after 12 t = blk V c 12 t := by dsimp only [dat]
theorem after_13 (c : Dev nD) (t : Fin cfg1.N) : (dat V c).after 13 t = scoresOut (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) := by dsimp only [dat]

theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg1.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem before_5 (c : Dev nD) (t : Fin cfg1.N) (d) : (dat V c).before 5 t d = blk V c 5 t :=
  ((dat V c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)
theorem before_6 (c : Dev nD) (t : Fin cfg1.N) (d) : (dat V c).before 6 t d = blk V c 6 t :=
  ((dat V c).before_in_eq_fetched 6 rfl (fun _ => rfl) (fun _ _ _ => rfl)
    (fun t => by rw [after_6]; unfold Dat.blockOf blk; rw [A_eq]; try rfl) t d).trans
    (by unfold Dat.fetched Dat.blockOf blk; rw [A_eq]; try rfl)
theorem before_7 (c : Dev nD) (t : Fin cfg1.N) (d) : (dat V c).before 7 t d = blk V c 7 t :=
  ((dat V c).before_in_eq_fetched 7 rfl (fun _ => rfl) (fun _ _ _ => rfl)
    (fun t => by rw [after_7]; unfold Dat.blockOf blk; rw [A_eq]; try rfl) t d).trans
    (by unfold Dat.fetched Dat.blockOf blk; rw [A_eq]; try rfl)
theorem before_8 (c : Dev nD) (t : Fin cfg1.N) (d) : (dat V c).before 8 t d = blk V c 8 t :=
  ((dat V c).before_in_eq_fetched 8 rfl (fun _ => rfl) (fun _ _ _ => rfl)
    (fun t => by rw [after_8]; unfold Dat.blockOf blk; rw [A_eq]; try rfl) t d).trans
    (by unfold Dat.fetched Dat.blockOf blk; rw [A_eq]; try rfl)
theorem before_9 (c : Dev nD) (t : Fin cfg1.N) (d) : (dat V c).before 9 t d = blk V c 9 t :=
  ((dat V c).before_in_eq_fetched 9 rfl (fun _ => rfl) (fun _ _ _ => rfl)
    (fun t => by rw [after_9]; unfold Dat.blockOf blk; rw [A_eq]; try rfl) t d).trans
    (by unfold Dat.fetched Dat.blockOf blk; rw [A_eq]; try rfl)
theorem before_10 (c : Dev nD) (t : Fin cfg1.N) (d) : (dat V c).before 10 t d = blk V c 10 t :=
  ((dat V c).before_in_eq_fetched 10 rfl (fun _ => rfl) (fun _ _ _ => rfl)
    (fun t => by rw [after_10]; unfold Dat.blockOf blk; rw [A_eq]; try rfl) t d).trans
    (by unfold Dat.fetched Dat.blockOf blk; rw [A_eq]; try rfl)
theorem before_11 (c : Dev nD) (t : Fin cfg1.N) (d) : (dat V c).before 11 t d = blk V c 11 t :=
  ((dat V c).before_in_eq_fetched 11 rfl (fun _ => rfl) (fun _ _ _ => rfl)
    (fun t => by rw [after_11]; unfold Dat.blockOf blk; rw [A_eq]; try rfl) t d).trans
    (by unfold Dat.fetched Dat.blockOf blk; rw [A_eq]; try rfl)
theorem before_12 (c : Dev nD) (t : Fin cfg1.N) (d) : (dat V c).before 12 t d = blk V c 12 t :=
  ((dat V c).before_in_eq_fetched 12 rfl (fun _ => rfl) (fun _ _ _ => rfl)
    (fun t => by rw [after_12]; unfold Dat.blockOf blk; rw [A_eq]; try rfl) t d).trans
    (by unfold Dat.fetched Dat.blockOf blk; rw [A_eq]; try rfl)

/-! ## The body at a grid point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t))

/-- The body at point `t`: its inputs hold their blocks, so `triple` applies; the rest passes through. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (triple c Set.univ (grid1.coords t) _ _ _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t` is the body. -/
theorem defs_row (t : Fin cfg1.N) : defs₀ (F := F) .tc cfg1.body (cfg1.bodyArgs t (cfg1.slots t)) = bodyAt1 t := by
  unfold defs₀; rw [Defs.onTc_tc]

/-- The body obligation of the pipeline, at every point. -/
theorem obligation (c : Dev nD) : BodyObligation (dat (F := F) V c) (defs₀ (F := F)) Variants.none () Set.univ := fun t => by
  rw [bigSep_W1, bigSep_W1, defs_row]
  exact triple_restated (body_at V c t) rfl .rfl fun _ => .rfl

end Cert.KernelIdeal.Scores

end
-- ==== Proof.KernelIdeal.Run.lean ====
/-
  The whole program's run: two pallas_calls with host operations before each.

  Each call is entered holding every unscoped buffer at known contents and left holding them with its result array at what its
  pipeline leaves; between the calls the host operations compute. `run` reads every unscoped buffer at the end.
-/
module

public import proofs.«01_k».proof.Proof.KernelIdeal.Attn
public import proofs.«01_k».proof.Proof.KernelIdeal.Scores
public import proofs.«01_k».proof.Proof.Gen.KernelIdeal.Regions

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg RegionSeg HostSeg)

variable {F : FTy → Type} [FloatOps F] [Named F]

local notation "𝕄" => MT nD τ sig Unit (Elt F) ℕ (UR sig nD τ) ℕ

variable (m : (ℓ : Loc nD τ sig) → Buf (Elt F) ℓ)

/-! ## The buffers' contents along the run -/

/-- Every previous word names a row of the table, as the first call finds them. -/
abbrev Ok : Prop := ∀ c t, Attn.InTable (Attn.blk (V1 m) c 0 t)

variable (ok : Ok m)

/-- The first call's data, -/
abbrev d0 (c : Dev nD) : Dat τ (Elt F) Unit ℕ (UR sig nD τ) ℕ cfg0 c := Attn.dat (V1 m) ok c
/-- the buffers after it, -/
def W2 (c : Dev nD) : Valuation τ sig (Elt F) := Function.update (V1 m c) main_v7 ((d0 m ok c).arrAt 13 cfg0.N)
/-- after the host operations that follow, -/
def W3 (c : Dev nD) : Valuation τ sig (Elt F) := StableHlo.after hostOps1 (W2 m ok c)
/-- the second call's data, -/
abbrev d1 (c : Dev nD) : Dat τ (Elt F) Unit ℕ (UR sig nD τ) ℕ cfg1 c := Scores.dat (W3 m ok) c
/-- and the buffers at the end. -/
def W4 (c : Dev nD) : Valuation τ sig (Elt F) := Function.update (W3 m ok c) main_v22 ((d1 m ok c).arrAt 13 cfg1.N)

/-- What the two calls leave in their result arrays. -/
def outs : Outs (F := F) := fun J r c => if J = 2 then W2 m ok c r else W4 m ok c r

theorem V2_eq (c : Dev nD) : V2 m (outs m ok) c = W2 m ok c := by
  show Function.update (V1 m c) main_v7 (outs m ok 2 main_v7 c) = _
  rw [show outs m ok 2 main_v7 c = W2 m ok c main_v7 from rfl]
  unfold W2; rw [Function.update_self]

theorem V3_eq (c : Dev nD) : V3 m (outs m ok) c = W3 m ok c := by
  show StableHlo.after hostOps1 (V2 m (outs m ok) c) = _
  rw [V2_eq]; rfl

theorem V4_eq (c : Dev nD) : V4 m (outs m ok) c = W4 m ok c := by
  show Function.update (V3 m (outs m ok) c) main_v22 (outs m ok 4 main_v22 c) = _
  rw [V3_eq, show outs m ok 4 main_v22 c = W4 m ok c main_v22 from rfl]
  unfold W4; rw [Function.update_self]

/-- The two pipelines' data. -/
def pdats : (p : Fin 2) → (c : Dev nD) → Dat τ (Elt F) Unit ℕ (UR sig nD τ) ℕ (cfgs p) c
  | ⟨0, _⟩ => fun c => d0 m ok c
  | ⟨1, _⟩ => fun c => d1 m ok c

abbrev L : GSem nD τ sig → Finset Unit := fun _ => ∅
abbrev lv : GSem nD τ sig → Unit → ℕ := fun _ _ => 0

/-! ## The two calls over the buffers -/

theorem out0_self (c : Dev nD) : W2 m ok c main_v7 = (d0 m ok c).arrAt 13 cfg0.N := by unfold W2; rw [Function.update_self]
theorem out0_of (c : Dev nD) (b : Ref sig .tc) (h : b ≠ main_v7) : W2 m ok c b = V1 m c b := by
  unfold W2
  exact Function.update_of_ne (fun e => h (Proc.devRef_injective (τ := τ) .tc e)) _ _

/-- Every array of the call ends at the buffers' contents after it. -/
theorem arrs0_in (c : Dev nD) (w : Fin cfg0.W) (hw : (cfg0.win w).isOut = false) (hne : Pipeline.arrRef spec0 w ≠ main_v7) :
    (d0 m ok c).arrAt w cfg0.N = W2 m ok c (Pipeline.arrRef spec0 w) :=
  ((d0 m ok c).arrAt_in w hw _).trans ((Attn.A_eq (V1 m) ok c w).trans (out0_of m ok c _ hne).symm)
theorem arrs0_cases : ∀ w : Fin cfg0.W, w = 13 ∨ ((cfg0.win w).isOut = false ∧ Pipeline.arrRef spec0 w ≠ main_v7) := by decide
theorem arrs0 (c : Dev nD) (w : Fin cfg0.W) : (d0 m ok c).arrAt w cfg0.N = W2 m ok c (Pipeline.arrRef spec0 w) := by
  rcases arrs0_cases w with h | h
  · subst h; exact (out0_self m ok c).symm
  · exact arrs0_in m ok c w h.1 h.2

set_option backward.isDefEq.respectTransparency.types false in
/-- Call 0: entered by taking its fourteen arrays out of the unscoped buffers, left with them put back, the result array at
    what the pipeline leaves. -/
def reg0 : RegionSeg (pcfgs (F := F)) adm (pdats m ok) () defs₀ Variants.none L lv 0 where
  win := launch0.win.to₀
  block_pos := launch0.block_pos
  stage_whole := launch0.stage_whole
  K := PEmpty
  osem k := k.elim
  ho := Pipeline.OwnSemFacts.none _
  hbody c := (Attn.obligation (V1 m) ok c).loose
  hwaits := Pipeline.hwaits_of_owed_zero _ _ _ _ L lv 0 fun _ _ => rfl
  pre c := iprop(unscopedBufs c (fun b => V1 m c b) ∗ ∃ W, owes (c : Thread nD τ) (0 : CellTallies nD τ sig Unit) W)
  post c := iprop(unscopedBufs c (fun b => W2 m ok c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m ok) launch0.win launch0.arr_whole c
      ((pdats m ok 0 c).share_full fun _ => rfl) (fun b => V1 m c b) (fun w => Attn.A_eq (V1 m) ok c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ok 0 c).Φ 0 = Pipeline.scopedRest (Ix := Unit) (Name := ℕ) (U := UR sig nD τ) (Lvl := ℕ) spec0 c from rfl]
    iintro ⟨-, -, Hr⟩; iexact Hr
  hout c := by
    rw [Pipeline.ownSems0_none, show (pdats m ok 0 c).Φ (Fin.last _) = Pipeline.scopedRest (Ix := Unit) (Name := ℕ) (U := UR sig nD τ) (Lvl := ℕ) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m ok) ((pdats m ok 0 c).share_full fun _ => rfl) (fun b => V1 m c b) (fun b => W2 m ok c b) ((pdats m ok 0 c).arrAt · cfg0.N)
      (arrs0 m ok c)
      (fun b hb => out0_of m ok c b fun h => hb (h ▸ Finset.mem_image.mpr ⟨13, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem out1_self (c : Dev nD) : W4 m ok c main_v22 = (d1 m ok c).arrAt 13 cfg1.N := by unfold W4; rw [Function.update_self]
theorem out1_of (c : Dev nD) (b : Ref sig .tc) (h : b ≠ main_v22) : W4 m ok c b = W3 m ok c b := by
  unfold W4
  exact Function.update_of_ne (fun e => h (Proc.devRef_injective (τ := τ) .tc e)) _ _

/-- Every array of the call ends at the buffers' contents after it. -/
theorem arrs1_in (c : Dev nD) (w : Fin cfg1.W) (hw : (cfg1.win w).isOut = false) (hne : Pipeline.arrRef spec1 w ≠ main_v22) :
    (d1 m ok c).arrAt w cfg1.N = W4 m ok c (Pipeline.arrRef spec1 w) :=
  ((d1 m ok c).arrAt_in w hw _).trans ((Scores.A_eq (W3 m ok) c w).trans (out1_of m ok c _ hne).symm)
theorem arrs1_cases : ∀ w : Fin cfg1.W, w = 13 ∨ ((cfg1.win w).isOut = false ∧ Pipeline.arrRef spec1 w ≠ main_v22) := by decide
theorem arrs1 (c : Dev nD) (w : Fin cfg1.W) : (d1 m ok c).arrAt w cfg1.N = W4 m ok c (Pipeline.arrRef spec1 w) := by
  rcases arrs1_cases w with h | h
  · subst h; exact (out1_self m ok c).symm
  · exact arrs1_in m ok c w h.1 h.2

set_option backward.isDefEq.respectTransparency.types false in
/-- Call 1: entered by taking its fourteen arrays out of the unscoped buffers, left with them put back, the result array at
    what the pipeline leaves. -/
def reg1 : RegionSeg (pcfgs (F := F)) adm (pdats m ok) () defs₀ Variants.none L lv 1 where
  win := launch1.win.to₀
  block_pos := launch1.block_pos
  stage_whole := launch1.stage_whole
  K := PEmpty
  osem k := k.elim
  ho := Pipeline.OwnSemFacts.none _
  hbody c := (Scores.obligation (W3 m ok) c).loose
  hwaits := Pipeline.hwaits_of_owed_zero _ _ _ _ L lv 1 fun _ _ => rfl
  pre c := iprop(unscopedBufs c (fun b => W3 m ok c b) ∗ ∃ W, owes (c : Thread nD τ) (0 : CellTallies nD τ sig Unit) W)
  post c := iprop(unscopedBufs c (fun b => W4 m ok c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => W3 m ok c b)
  hentry c := by
    rw [Pipeline.ownSems0_none]
    have hsplit := Pipeline.arrays_of_unscopedBufs (p := 1) (pcfgs (F := F)) adm (pdats m ok) launch1.win launch1.arr_whole c
      ((pdats m ok 1 c).share_full fun _ => rfl) (fun b => W3 m ok c b) (fun w => Scores.A_eq (W3 m ok) c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ok 1 c).Φ 0 = Pipeline.scopedRest (Ix := Unit) (Name := ℕ) (U := UR sig nD τ) (Lvl := ℕ) spec1 c from rfl]
    iintro ⟨-, -, Hr⟩; iexact Hr
  hout c := by
    rw [Pipeline.ownSems0_none, show (pdats m ok 1 c).Φ (Fin.last _) = Pipeline.scopedRest (Ix := Unit) (Name := ℕ) (U := UR sig nD τ) (Lvl := ℕ) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m ok) ((pdats m ok 1 c).share_full fun _ => rfl) (fun b => W3 m ok c b) (fun b => W4 m ok c b) ((pdats m ok 1 c).arrAt · cfg1.N)
      (arrs1 m ok c)
      (fun b hb => out1_of m ok c b fun h => hb (h ▸ Finset.mem_image.mpr ⟨13, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- What rides along between the calls: the core owes nothing. -/
abbrev E (_ : Fin 3) (c : Dev nD) : sProp 𝕄 := iprop(∃ W, owes (c : Thread nD τ) (0 : CellTallies nD τ sig Unit) W)

theorem held_eq (c : Dev nD) (W : Valuation τ sig (Elt F)) :
    (unscopedBufs c (fun b => W b) : sProp 𝕄) = StableHlo.held (c : Thread nD τ) (Pipeline.ucRefs τ sig) W :=
  Pipeline.unscopedBufs_held (Ix := Unit) (Name := ℕ) (U := UR sig nD τ) (Lvl := ℕ) c W

variable (ρ : Dev nD → PrngReg)

set_option backward.isDefEq.respectTransparency.types false in
/-- From any memory whose previous words name rows of the table, and any generator, every fair execution ends, with every
    unscoped buffer at `W4` and every semaphore counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W4 m ok c b) ∧ r.2.sem = fun _ => 0) := by
  have hpre0 : ∀ c : Dev nD, iprop(StableHlo.held (c : Thread nD τ) (Pipeline.ucRefs τ sig) (V1 m c) ∗ E 0 c) ⊢ (reg0 m ok).pre c := fun c => by
    rw [← held_eq]; exact .rfl
  have hpost0 : ∀ c : Dev nD, (reg0 m ok).post c ⊢ iprop(StableHlo.held (c : Thread nD τ) (Pipeline.ucRefs τ sig) (V2 m (outs m ok) c) ∗ E 1 c) := fun c => by
    rw [V2_eq, ← held_eq]; exact .rfl
  have hpre1 : ∀ c : Dev nD, iprop(StableHlo.held (c : Thread nD τ) (Pipeline.ucRefs τ sig) (V3 m (outs m ok) c) ∗ E 1 c) ⊢ (reg1 m ok).pre c := fun c => by
    rw [V3_eq, ← held_eq]; exact .rfl
  have hpost1 : ∀ c : Dev nD, (reg1 m ok).post c ⊢ iprop(StableHlo.held (c : Thread nD τ) (Pipeline.ucRefs τ sig) (W4 m ok c) ∗ E 2 c) := fun c => by
    rw [← held_eq]; exact .rfl
  refine Pipeline.θ_run_regions_kit_dev_sems (pcfgs (F := F)) adm (pdats m ok) () cellOf_inj emb₁ defs₀ Variants.none L lv m ρ main
    (segs m (outs m ok) Variants.none L lv E () (pdats m ok) (reg0 m ok) (reg1 m ok))
    (fun c Q => by
      rewrite [main_chain c, Seg.run_eq_chain,
        show (segs m (outs m ok) Variants.none L lv E () (pdats m ok) (reg0 m ok) (reg1 m ok) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (W4 m ok c))
    (hch := fun c => ⟨.rfl, hpre0 c, hpost0 c, hpre1 c, hpost1 c⟩)
    (hinit := ?_) (QY := fun c s => ∀ b ∈ Pipeline.ucRefs τ sig, s.mem ((c : Thread nD τ).1, b) = W4 m ok c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [held_eq c (fun b => m (c, b))]
    iintro ⟨⟨Hub, -, HO, -, -, -⟩, -⟩
    imodintro
    isplitl [Hub]; · iexact Hub
    iexists ∅; iexact HO
  · unfold StableHlo.held
    iintro ⟨Hh, HSI⟩
    ihave Hr := (pointsTo_read_all (Pipeline.ucRefs τ sig) (fun b => ((c : Thread nD τ).1, b)) (W4 m ok c) s') $$ [Hh HSI]
    · isplitl [Hh] <;> iassumption
    icases Hr with ⟨%h, HSI⟩
    imodintro
    isplitr
    · ipureintro; exact h
    · iexact HSI

/-- A TensorCore buffer that is not scoped is read by `run`. -/
theorem mem_uc (r : Ref sig .tc) (h : r.isScoped = false) : Proc.devRef (τ := τ) .tc r ∈ Pipeline.ucRefs τ sig :=
  Finset.mem_filter.mpr ⟨StableHlo.devRef_mem_tcRefs r, by simpa using h⟩

/-- An argument no item writes ends as launched. -/
theorem W4_of (c : Dev nD) (r : Ref sig .tc) (h0 : r ∉ hostOps0_W) (h1 : r ∉ ([main_v7] : List (Ref sig .tc))) (h2 : r ∉ hostOps1_W) (h3 : r ∉ ([main_v22] : List (Ref sig .tc))) :
    W4 m ok c r = m (c, Proc.devRef .tc r) := by
  rw [← V4_eq, V4_of m (outs m ok) c r h3, V3_of m (outs m ok) c r h2, V2_of m (outs m ok) c r h1, V1_of m c r h0]

end Cert.KernelIdeal.Run

end
-- ==== Proof.KernelIdeal.Frames.lean ====
/-
  What the program leaves behind when every previous word is in the vocabulary: its run, read at the arguments.
-/
module

public import proofs.«01_k».proof.Proof.KernelIdeal.Run

@[expose] public section

noncomputable section

namespace Cert.KernelIdeal.Run

open Cert.KernelIdeal Cert.KernelIdeal.Gen
open Idealize.ShloMosaic Idealize.ShloMosaic.TcCoe
open Idealize.SL.Sem

variable {F : FTy → Type} [FloatOps F] [Named F]

/-- Words in the vocabulary are rows of the embedding table. -/
theorem ok_of_range (m : (ℓ : Loc nD τ sig) → Buf (Elt F) ℓ)
    (h : ∀ (c : Dev nD) y, (0#32).sle ((m ((c.tc : Thread nD τ).loc main_arg0) : IVec S128x1 32) y) = true ∧
      ((m ((c.tc : Thread nD τ).loc main_arg0) : IVec S128x1 32) y).slt 3000#32 = true) : Ok m := by
  intro c t y
  have key : ∀ v : BitVec 32, (0#32).sle v = true ∧ v.slt 3000#32 = true → k0_chk1 v := by
    rintro v ⟨hge, hlt⟩
    simp only [BitVec.sle, BitVec.slt, decide_eq_true_eq, BitVec.toInt, BitVec.toNat_ofNat] at hge hlt
    have hv : v.toNat < 3000 := by omega
    intro a
    have h2 : (Scalar.indexCast v).toNat = v.toNat ∨ True := Or.inr trivial
    fin_cases a
    · show (Scalar.indexCast v).toNat + 1 ≤ 3000
      simp only [Scalar.indexCast]
      omega
    · show 0 + 512 ≤ 512
      omega
  have hV : V1 m c (Proc.devRef .tc main_arg0) = m ((c.tc : Thread nD τ).loc main_arg0) := by
    first
    | rfl
    | exact V1_of m c main_arg0 (by decide)
  apply key
  unfold Attn.blk
  rw [View.read_apply, cast_eq]
  exact hV ▸ h c _

/-- From any memory whose previous words are in the vocabulary, every argument array is left as it was and every
    counter returns to zero. -/
theorem frame (m : (ℓ : Loc nD τ sig) → Buf (Elt F) ℓ) (ok : Ok m) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22)) ∧ r.2.sem = fun _ => 0) := by
  refine θ_run_mono (run m ok ρ) (fun r h => ⟨fun c => ?_, h.2⟩)
  refine ⟨?_, ?_, ?_, ?_, ?_, ?_, ?_, ?_, ?_, ?_, ?_, ?_, ?_, ?_, ?_, ?_, ?_, ?_, ?_, ?_, ?_, ?_, ?_⟩
  · exact (h.1 c _ (mem_uc main_arg0 (by decide))).trans (W4_of m ok c main_arg0 (by decide) (by decide) (by decide) (by decide))
  · exact (h.1 c _ (mem_uc main_arg1 (by decide))).trans (W4_of m ok c main_arg1 (by decide) (by decide) (by decide) (by decide))
  · exact (h.1 c _ (mem_uc main_arg2 (by decide))).trans (W4_of m ok c main_arg2 (by decide) (by decide) (by decide) (by decide))
  · exact (h.1 c _ (mem_uc main_arg3 (by decide))).trans (W4_of m ok c main_arg3 (by decide) (by decide) (by decide) (by decide))
  · exact (h.1 c _ (mem_uc main_arg4 (by decide))).trans (W4_of m ok c main_arg4 (by decide) (by decide) (by decide) (by decide))
  · exact (h.1 c _ (mem_uc main_arg5 (by decide))).trans (W4_of m ok c main_arg5 (by decide) (by decide) (by decide) (by decide))
  · exact (h.1 c _ (mem_uc main_arg6 (by decide))).trans (W4_of m ok c main_arg6 (by decide) (by decide) (by decide) (by decide))
  · exact (h.1 c _ (mem_uc main_arg7 (by decide))).trans (W4_of m ok c main_arg7 (by decide) (by decide) (by decide) (by decide))
  · exact (h.1 c _ (mem_uc main_arg8 (by decide))).trans (W4_of m ok c main_arg8 (by decide) (by decide) (by decide) (by decide))
  · exact (h.1 c _ (mem_uc main_arg9 (by decide))).trans (W4_of m ok c main_arg9 (by decide) (by decide) (by decide) (by decide))
  · exact (h.1 c _ (mem_uc main_arg10 (by decide))).trans (W4_of m ok c main_arg10 (by decide) (by decide) (by decide) (by decide))
  · exact (h.1 c _ (mem_uc main_arg11 (by decide))).trans (W4_of m ok c main_arg11 (by decide) (by decide) (by decide) (by decide))
  · exact (h.1 c _ (mem_uc main_arg12 (by decide))).trans (W4_of m ok c main_arg12 (by decide) (by decide) (by decide) (by decide))
  · exact (h.1 c _ (mem_uc main_arg13 (by decide))).trans (W4_of m ok c main_arg13 (by decide) (by decide) (by decide) (by decide))
  · exact (h.1 c _ (mem_uc main_arg14 (by decide))).trans (W4_of m ok c main_arg14 (by decide) (by decide) (by decide) (by decide))
  · exact (h.1 c _ (mem_uc main_arg15 (by decide))).trans (W4_of m ok c main_arg15 (by decide) (by decide) (by decide) (by decide))
  · exact (h.1 c _ (mem_uc main_arg16 (by decide))).trans (W4_of m ok c main_arg16 (by decide) (by decide) (by decide) (by decide))
  · exact (h.1 c _ (mem_uc main_arg17 (by decide))).trans (W4_of m ok c main_arg17 (by decide) (by decide) (by decide) (by decide))
  · exact (h.1 c _ (mem_uc main_arg18 (by decide))).trans (W4_of m ok c main_arg18 (by decide) (by decide) (by decide) (by decide))
  · exact (h.1 c _ (mem_uc main_arg19 (by decide))).trans (W4_of m ok c main_arg19 (by decide) (by decide) (by decide) (by decide))
  · exact (h.1 c _ (mem_uc main_arg20 (by decide))).trans (W4_of m ok c main_arg20 (by decide) (by decide) (by decide) (by decide))
  · exact (h.1 c _ (mem_uc main_arg21 (by decide))).trans (W4_of m ok c main_arg21 (by decide) (by decide) (by decide) (by decide))
  · exact (h.1 c _ (mem_uc main_arg22 (by decide))).trans (W4_of m ok c main_arg22 (by decide) (by decide) (by decide) (by decide))

end Cert.KernelIdeal.Run
-- ==== Proof.Frames.lean ====
/-
  The claims on the arguments and the counters: each program leaves its argument arrays as they were and every counter
  at zero. The kernel's two programs need the previous words in the vocabulary; the reference needs nothing.
-/
module

public import proofs.«01_k».proof.Defs
public import proofs.«01_k».proof.Proof.Kernel.Frames
public import proofs.«01_k».proof.Proof.KernelIdeal.Frames
public import proofs.«01_k».proof.Proof.Gen.Pre_in_range
public import proofs.«01_k».proof.Proof.Gen.ReferenceIdeal.Run

@[expose] public section

noncomputable section

namespace Cert.Proof

open Idealize.ShloMosaic Idealize.ShloMosaic.TcCoe Idealize.SL.Sem

/-- The conjunction of two truth bits is the bit of the conjunction. -/
theorem andi_ofBool (p q : Bool) :
    IntOp.andi (BitVec.ofBool p) (BitVec.ofBool q) = BitVec.ofBool (p && q) := by
  cases p <;> cases q <;> decide

/-- A truth bit is one exactly when the truth value is true. -/
theorem ofBool_eq_one (p : Bool) : (BitVec.ofBool p = 1#1) ↔ p = true := by
  cases p <;> decide

/-- In the kernel as printed: the precondition says the words lie in the vocabulary. -/
theorem ok_Kernel (m : (ℓ : Loc Cert.Kernel.nD Cert.Kernel.τ Cert.Kernel.sig) → Buf (Elt Bits) ℓ)
    (h : Cert.Pre_Kernel m) : Cert.Kernel.Run.Ok m := by
  refine Cert.Kernel.Run.ok_of_range m (fun c y => ?_)
  have e := congrFun (h c) y
  simp only [Cert.Pre_in_range.fn, andi, cmpi, broadcastInDim, constantI, IntOp.cmpi, andi_ofBool, ofBool_eq_one,
    Bool.and_eq_true] at e
  exact e

/-- At the ideal floats: the precondition says the words lie in the vocabulary. -/
theorem ok_KernelIdeal
    (m : (ℓ : Loc Cert.KernelIdeal.nD Cert.KernelIdeal.τ Cert.KernelIdeal.sig) → Buf (Elt Ideal) ℓ)
    (h : Cert.Pre_KernelIdeal m) : Cert.KernelIdeal.Run.Ok m := by
  refine Cert.KernelIdeal.Run.ok_of_range m (fun c y => ?_)
  have e := congrFun (h c) y
  simp only [Cert.Pre_in_range.fn, andi, cmpi, broadcastInDim, constantI, IntOp.cmpi, andi_ofBool, ofBool_eq_one,
    Bool.and_eq_true] at e
  exact e

/-- The kernel as printed leaves its arguments and its counters. -/
theorem frame_Kernel : Cert.quiescent_Kernel := fun m ρ h => Cert.Kernel.Run.frame m (ok_Kernel m h) ρ

/-- The kernel at the ideal floats leaves its arguments and its counters. -/
theorem frame_KernelIdeal : Cert.quiescent_KernelIdeal := fun m ρ h =>
  Cert.KernelIdeal.Run.frame m (ok_KernelIdeal m h) ρ

/-- The reference leaves its arguments, and it has no counters. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel differs from the kernel only in that its mask, `-1e20`, is named and is −∞. -/
theorem preserves : Cert.preserves_Kernel_KernelIdeal :=
  IdealRules.named_const.statement Cert.KernelIdeal.κ "neg" .f32 0xE0AD78EC#32 ⊥ rfl

end Cert.Proof

end
-- ==== Proof.Value.Args.lean ====
module

public import proofs.«01_k».proof.Proof.Gen.ReferenceIdeal.Read

/-! The reference's arguments, and the values of its steps as functions of them. -/

@[expose] public section

noncomputable section

namespace Cert.ReferenceIdeal
open Cert.ReferenceIdeal.Read
open Idealize.ShloMosaic Idealize.ShloMosaic.TcCoe

/-- The contents of the arguments, in order. -/
structure Args where
  x0 : (⟨S128x1, .i32⟩ : BufTy).Contents (Elt Ideal)
  x1 : (⟨S1x128x512, .f32⟩ : BufTy).Contents (Elt Ideal)
  x2 : (⟨S128x256x512, .f32⟩ : BufTy).Contents (Elt Ideal)
  x3 : (⟨S128x128x512, .f32⟩ : BufTy).Contents (Elt Ideal)
  x4 : (⟨S128x64x512, .f32⟩ : BufTy).Contents (Elt Ideal)
  x5 : (⟨S128x32, .f32⟩ : BufTy).Contents (Elt Ideal)
  x6 : (⟨S128x256, .i32⟩ : BufTy).Contents (Elt Ideal)
  x7 : (⟨S128x128, .i32⟩ : BufTy).Contents (Elt Ideal)
  x8 : (⟨S128x64, .i32⟩ : BufTy).Contents (Elt Ideal)
  x9 : (⟨S128x128, .i32⟩ : BufTy).Contents (Elt Ideal)
  x10 : (⟨S128x128x3128, .f32⟩ : BufTy).Contents (Elt Ideal)
  x11 : (⟨S3000x512, .f32⟩ : BufTy).Contents (Elt Ideal)
  x12 : (⟨S512x1024, .f32⟩ : BufTy).Contents (Elt Ideal)
  x13 : (⟨S512, .f32⟩ : BufTy).Contents (Elt Ideal)
  x14 : (⟨S1x512, .f32⟩ : BufTy).Contents (Elt Ideal)
  x15 : (⟨S512x512, .f32⟩ : BufTy).Contents (Elt Ideal)
  x16 : (⟨S512, .f32⟩ : BufTy).Contents (Elt Ideal)
  x17 : (⟨S3000x512, .f32⟩ : BufTy).Contents (Elt Ideal)
  x18 : (⟨S3000, .f32⟩ : BufTy).Contents (Elt Ideal)
  x19 : (⟨S1536x2080, .f32⟩ : BufTy).Contents (Elt Ideal)
  x20 : (⟨S1536x512, .f32⟩ : BufTy).Contents (Elt Ideal)
  x21 : (⟨S1536, .f32⟩ : BufTy).Contents (Elt Ideal)
  x22 : (⟨S1536, .f32⟩ : BufTy).Contents (Elt Ideal)

/-- The embedded words. -/
abbrev Args.v7 (A : Args) := val_main_v7 (F := Ideal) A.x0 A.x11
/-- The first attention. -/
abbrev Args.v41 (A : Args) := val_main_v41 (F := Ideal) A.x1 A.x2 A.x6 A.x12 A.x13 A.x14
/-- The second attention. -/
abbrev Args.v66 (A : Args) := val_main_v66 (F := Ideal) A.x1 A.x3 A.x7 A.x12 A.x13 A.x14
/-- The third attention. -/
abbrev Args.v91 (A : Args) := val_main_v91 (F := Ideal) A.x1 A.x4 A.x8 A.x12 A.x13 A.x14
/-- The recurrent cell's input. -/
abbrev Args.v93 (A : Args) := val_main_v93 (F := Ideal) A.x0 A.x1 A.x2 A.x3 A.x4 A.x5 A.x6 A.x7 A.x8 A.x11 A.x12 A.x13 A.x14
/-- The new state. -/
abbrev Args.v132 (A : Args) := val_main_v132 (F := Ideal) A.x0 A.x1 A.x2 A.x3 A.x4 A.x5 A.x6 A.x7 A.x8 A.x11 A.x12 A.x13 A.x14 A.x19 A.x20 A.x21 A.x22
/-- The vocabulary's scores. -/
abbrev Args.v138 (A : Args) := val_main_v138 (F := Ideal) A.x0 A.x1 A.x2 A.x3 A.x4 A.x5 A.x6 A.x7 A.x8 A.x11 A.x12 A.x13 A.x14 A.x17 A.x18 A.x19 A.x20 A.x21 A.x22
/-- The copies' scores. -/
abbrev Args.v146 (A : Args) := val_main_v146 (F := Ideal) A.x0 A.x1 A.x2 A.x3 A.x4 A.x5 A.x6 A.x7 A.x8 A.x11 A.x12 A.x13 A.x14 A.x15 A.x16 A.x19 A.x20 A.x21 A.x22
/-- The copies' scores on their lanes. -/
abbrev Args.v147 (A : Args) := val_main_v147 (F := Ideal) A.x0 A.x1 A.x2 A.x3 A.x4 A.x5 A.x6 A.x7 A.x8 A.x10 A.x11 A.x12 A.x13 A.x14 A.x15 A.x16 A.x19 A.x20 A.x21 A.x22
/-- The joined scores. -/
abbrev Args.v148 (A : Args) := val_main_v148 (F := Ideal) A.x0 A.x1 A.x2 A.x3 A.x4 A.x5 A.x6 A.x7 A.x8 A.x10 A.x11 A.x12 A.x13 A.x14 A.x15 A.x16 A.x17 A.x18 A.x19 A.x20 A.x21 A.x22
/-- The log softmax. -/
abbrev Args.v149 (A : Args) := val_main_v149 (F := Ideal) A.x0 A.x1 A.x2 A.x3 A.x4 A.x5 A.x6 A.x7 A.x8 A.x10 A.x11 A.x12 A.x13 A.x14 A.x15 A.x16 A.x17 A.x18 A.x19 A.x20 A.x21 A.x22
/-- The shares of the slots. -/
abbrev Args.v161 (A : Args) := val_main_v161 (F := Ideal) A.x0 A.x1 A.x2 A.x3 A.x4 A.x5 A.x6 A.x7 A.x8 A.x9 A.x10 A.x11 A.x12 A.x13 A.x14 A.x15 A.x16 A.x17 A.x18 A.x19 A.x20 A.x21 A.x22
/-- The shares added up at their lanes. -/
abbrev Args.v179 (A : Args) := val_main_v179 (F := Ideal) A.x0 A.x1 A.x2 A.x3 A.x4 A.x5 A.x6 A.x7 A.x8 A.x9 A.x10 A.x11 A.x12 A.x13 A.x14 A.x15 A.x16 A.x17 A.x18 A.x19 A.x20 A.x21 A.x22
/-- Their logarithms. -/
abbrev Args.v185 (A : Args) := val_main_v185 (F := Ideal) A.x0 A.x1 A.x2 A.x3 A.x4 A.x5 A.x6 A.x7 A.x8 A.x9 A.x10 A.x11 A.x12 A.x13 A.x14 A.x15 A.x16 A.x17 A.x18 A.x19 A.x20 A.x21 A.x22
/-- The vocabulary's log scores. -/
abbrev Args.v195 (A : Args) := val_main_v195 (F := Ideal) A.x0 A.x1 A.x2 A.x3 A.x4 A.x5 A.x6 A.x7 A.x8 A.x10 A.x11 A.x12 A.x13 A.x14 A.x15 A.x16 A.x17 A.x18 A.x19 A.x20 A.x21 A.x22
/-- The result. -/
abbrev Args.v197 (A : Args) := val_main_v197 (F := Ideal) A.x0 A.x1 A.x2 A.x3 A.x4 A.x5 A.x6 A.x7 A.x8 A.x9 A.x10 A.x11 A.x12 A.x13 A.x14 A.x15 A.x16 A.x17 A.x18 A.x19 A.x20 A.x21 A.x22

end Cert.ReferenceIdeal
-- ==== Proof.Value.Real.lean ====
/-
  Facts about extended reals: which of them are real, the ideal exponential, hyperbolic tangent and logarithm on them, a
  softmax-weighted sum with the division inside or outside, and a log-softmax subtracted in one step or in two.
-/
module

public import Idealize.ShloMosaic.Lib.Pointwise

@[expose] public section

noncomputable section

namespace Cert.Math

open Idealize.ShloMosaic

/-! ## Real extended reals -/

/-- An extended real that is neither infinity. -/
def IsReal (x : EReal) : Prop := x ≠ ⊥ ∧ x ≠ ⊤

theorem isReal_coe (r : ℝ) : IsReal (r : EReal) := ⟨EReal.coe_ne_bot r, EReal.coe_ne_top r⟩

theorem IsReal.exists {x : EReal} (h : IsReal x) : ∃ r : ℝ, x = r := ⟨x.toReal, (EReal.coe_toReal h.2 h.1).symm⟩

theorem isReal_zero : IsReal 0 := isReal_coe 0

theorem isReal_one : IsReal 1 := isReal_coe 1

theorem IsReal.add {x y : EReal} (hx : IsReal x) (hy : IsReal y) : IsReal (x + y) := by
  obtain ⟨a, rfl⟩ := hx.exists
  obtain ⟨b, rfl⟩ := hy.exists
  rw [← EReal.coe_add]
  exact isReal_coe _

theorem IsReal.sub {x y : EReal} (hx : IsReal x) (hy : IsReal y) : IsReal (x - y) := by
  obtain ⟨a, rfl⟩ := hx.exists
  obtain ⟨b, rfl⟩ := hy.exists
  rw [← EReal.coe_sub]
  exact isReal_coe _

theorem IsReal.mul {x y : EReal} (hx : IsReal x) (hy : IsReal y) : IsReal (x * y) := by
  obtain ⟨a, rfl⟩ := hx.exists
  obtain ⟨b, rfl⟩ := hy.exists
  rw [← EReal.coe_mul]
  exact isReal_coe _

theorem isReal_sum {ι : Type*} (s : Finset ι) (f : ι → EReal) (h : ∀ i, IsReal (f i)) : IsReal (∑ i ∈ s, f i) := by
  classical
  induction s using Finset.induction_on with
  | empty => rw [Finset.sum_empty]; exact isReal_zero
  | insert a s ha ih => rw [Finset.sum_insert ha]; exact (h a).add ih

/-- What lies strictly below the top in absolute value is real. -/
theorem isReal_of_abs_lt {x : EReal} (h : max x (-x) < ⊤) : IsReal x := by
  constructor
  · rintro rfl
    rw [EReal.neg_bot] at h
    exact absurd (lt_of_le_of_lt (le_max_right _ _) h) (lt_irrefl _)
  · rintro rfl
    exact absurd (lt_of_le_of_lt (le_max_left _ _) h) (lt_irrefl _)

/-! ## The ideal functions -/

theorem tanh_isReal (x : EReal) : IsReal (Ideal.tanh x) := by
  induction x using EReal.rec with
  | bot => exact isReal_coe (-1)
  | top => exact isReal_one
  | coe r => exact isReal_coe _

theorem exp_nonneg (x : EReal) : 0 ≤ Ideal.exp x := by
  induction x using EReal.rec with
  | bot => exact le_refl _
  | top => exact le_top
  | coe r => exact EReal.coe_nonneg.mpr (Real.exp_pos r).le

theorem exp_ne_top {x : EReal} (h : x ≠ ⊤) : Ideal.exp x ≠ ⊤ := by
  induction x using EReal.rec with
  | bot => exact EReal.zero_ne_top
  | top => exact absurd rfl h
  | coe r => exact EReal.coe_ne_top _

theorem exp_pos {x : EReal} (h : x ≠ ⊥) : 0 < Ideal.exp x := by
  induction x using EReal.rec with
  | bot => exact absurd rfl h
  | top => exact EReal.zero_lt_top
  | coe r => exact EReal.coe_pos.mpr (Real.exp_pos r)

theorem exp_bot : Ideal.exp ⊥ = 0 := rfl

theorem sub_ne_top {x m : EReal} (h : x ≠ ⊤) (hm : IsReal m) : x - m ≠ ⊤ := by
  obtain ⟨r, rfl⟩ := hm.exists
  induction x using EReal.rec with
  | bot => rw [EReal.bot_sub]; exact bot_ne_top
  | top => exact absurd rfl h
  | coe a => rw [← EReal.coe_sub]; exact EReal.coe_ne_top _

theorem sub_ne_bot {x m : EReal} (h : x ≠ ⊥) (hm : IsReal m) : x - m ≠ ⊥ := by
  obtain ⟨r, rfl⟩ := hm.exists
  induction x using EReal.rec with
  | bot => exact absurd rfl h
  | top => rw [EReal.top_sub_coe]; exact top_ne_bot
  | coe a => rw [← EReal.coe_sub]; exact EReal.coe_ne_bot _

/-- The ideal division by a positive real, as a product. -/
theorem div_pos (x : EReal) {d : EReal} (h : 0 < d) : Ideal.div x d = x * d⁻¹ := if_neg h.ne'

/-- The logistic of anything is real. -/
theorem logistic_isReal (x : EReal) : IsReal (Ideal.div 1 (1 + Ideal.exp (-x))) := by
  have h1 : (0 : EReal) < 1 + Ideal.exp (-x) := by
    have := add_le_add (le_refl (1 : EReal)) (exp_nonneg (-x))
    rw [add_zero] at this
    exact lt_of_lt_of_le zero_lt_one this
  rw [div_pos _ h1, one_mul]
  induction x using EReal.rec with
  | bot =>
    have : (1 : EReal) + Ideal.exp (-⊥) = ⊤ := by
      rw [EReal.neg_bot]
      exact EReal.add_top_of_ne_bot (isReal_one.1)
    rw [this, EReal.inv_top]
    exact isReal_zero
  | top =>
    have : (1 : EReal) + Ideal.exp (-⊤) = ((1 : ℝ) : EReal) := by
      rw [EReal.neg_top, exp_bot, add_zero]
      rfl
    rw [this, ← EReal.coe_inv]
    exact isReal_coe _
  | coe r =>
    have : (1 : EReal) + Ideal.exp (-(r : EReal)) = ((1 + Real.exp (-r) : ℝ) : EReal) := by
      rw [EReal.coe_add, ← EReal.coe_neg]
      rfl
    rw [this, ← EReal.coe_inv]
    exact isReal_coe _

/-! ## The greatest of finitely many -/

variable {ι : Type*} [Fintype ι]

/-- The greatest of finitely many extended reals (−∞ of none). -/
abbrev greatest (s : ι → EReal) : EReal := Finset.univ.fold max ⊥ s

theorem greatest_le_iff (s : ι → EReal) (c : EReal) : greatest s ≤ c ↔ ∀ i, s i ≤ c := by
  rw [Finset.fold_max_le]
  simp

theorem le_greatest (s : ι → EReal) (i : ι) : s i ≤ greatest s := (greatest_le_iff s _).mp le_rfl i

theorem greatest_ne_top (s : ι → EReal) (h : ∀ i, s i ≠ ⊤) : greatest s ≠ ⊤ := by
  have := (Finset.fold_max_lt (s := (Finset.univ : Finset ι)) (f := s) (b := ⊥) (c := ⊤)).mpr
    ⟨bot_lt_top, fun i _ => lt_top_iff_ne_top.mpr (h i)⟩
  exact this.ne

theorem greatest_ne_bot (s : ι → EReal) (h : ∃ i, s i ≠ ⊥) : greatest s ≠ ⊥ := by
  obtain ⟨i, hi⟩ := h
  intro e
  exact hi (le_bot_iff.mp (e ▸ le_greatest s i))

/-! ## Sums -/

theorem sum_ne_top (f : ι → EReal) (h : ∀ i, f i ≠ ⊤) (S : Finset ι) : ∑ i ∈ S, f i ≠ ⊤ := by
  classical
  induction S using Finset.induction_on with
  | empty => rw [Finset.sum_empty]; exact EReal.zero_ne_top
  | insert a s ha ih => rw [Finset.sum_insert ha]; exact EReal.add_ne_top (h a) ih

theorem sum_pos (f : ι → EReal) (h : ∀ i, 0 ≤ f i) (hp : ∃ i, 0 < f i) : 0 < ∑ i, f i := by
  obtain ⟨i, hi⟩ := hp
  exact lt_of_lt_of_le hi (Finset.single_le_sum (fun j _ => h j) (Finset.mem_univ i))

theorem sum_mul (f : ι → EReal) {c : EReal} (h0 : 0 ≤ c) (h1 : c ≠ ⊤) (S : Finset ι) :
    (∑ i ∈ S, f i) * c = ∑ i ∈ S, f i * c := by
  classical
  induction S using Finset.induction_on with
  | empty => simp
  | insert a s ha ih =>
    rw [Finset.sum_insert ha, Finset.sum_insert ha, EReal.right_distrib_of_nonneg_of_ne_top h0 h1, ih]

/-! ## The softmax-weighted sum -/

/-- The scores shifted by their greatest, exponentiated: none infinite, none negative, their sum positive and real. -/
theorem weights (s : ι → EReal) (hs : ∀ i, s i ≠ ⊤) (hne : ∃ i, s i ≠ ⊥) {m : EReal} (hm : IsReal m) :
    (0 < ∑ i, Ideal.exp (s i - m)) ∧ (∑ i, Ideal.exp (s i - m)) ≠ ⊤ :=
  ⟨sum_pos _ (fun i => exp_nonneg _) (hne.imp fun i hi => exp_pos (sub_ne_bot hi hm)),
    sum_ne_top _ (fun i => exp_ne_top (sub_ne_top (hs i) hm)) _⟩

/-- A softmax-weighted sum: dividing the sum, or each weight, is one value, even of infinite summands. -/
theorem softmax_sum (s c : ι → EReal) (hs : ∀ i, s i ≠ ⊤) (hne : ∃ i, s i ≠ ⊥) :
    Ideal.div (∑ i, Ideal.exp (s i - greatest s) * c i) (∑ i, Ideal.exp (s i - greatest s))
      = ∑ i, Ideal.div (Ideal.exp (s i - greatest s)) (∑ j, Ideal.exp (s j - greatest s)) * c i := by
  have hm : IsReal (greatest s) := ⟨greatest_ne_bot s hne, greatest_ne_top s hs⟩
  obtain ⟨h0, h1⟩ := weights s hs hne hm
  rw [div_pos _ h0, sum_mul _ (EReal.inv_nonneg_of_nonneg h0.le) ?_]
  · refine Finset.sum_congr rfl fun i _ => ?_
    rw [div_pos _ h0, mul_right_comm]
  · obtain ⟨d, hd⟩ := IsReal.exists (x := ∑ i, Ideal.exp (s i - greatest s)) ⟨(lt_trans EReal.bot_lt_zero h0).ne', h1⟩
    rw [hd, ← EReal.coe_inv]
    exact EReal.coe_ne_top _

/-! ## Logarithms of sums -/

/-- The logarithm of a positive real is real. -/
theorem log_isReal {z : EReal} (h0 : 0 < z) (h1 : z ≠ ⊤) : IsReal (Ideal.log z) := by
  obtain ⟨r, rfl⟩ := IsReal.exists (x := z) ⟨(lt_trans EReal.bot_lt_zero h0).ne', h1⟩
  have hr : ¬ r ≤ 0 := not_le.mpr (EReal.coe_pos.mp h0)
  show IsReal (if r ≤ 0 then ⊥ else (Real.log r : EReal))
  rw [if_neg hr]
  exact isReal_coe _

/-- Subtracting two reals one after the other, or their sum at once. -/
theorem sub_sub_real (x : EReal) {m l : EReal} (hm : IsReal m) (hl : IsReal l) : x - (m + l) = x - m - l := by
  obtain ⟨a, rfl⟩ := hm.exists
  obtain ⟨b, rfl⟩ := hl.exists
  induction x using EReal.rec with
  | bot => rw [EReal.bot_sub, EReal.bot_sub, EReal.bot_sub]
  | top => rw [← EReal.coe_add, EReal.top_sub_coe, EReal.top_sub_coe, EReal.top_sub_coe]
  | coe r =>
    rw [← EReal.coe_add, ← EReal.coe_sub, ← EReal.coe_sub, ← EReal.coe_sub]
    congr 1
    ring

/-- The exponent of a logarithm of a sum of two exponentials: minus the distance, or the least less the greatest. -/
theorem neg_abs_sub {a b : EReal} (ha : IsReal a) (hb : b ≠ ⊤) :
    -(max (a - b) (-(a - b))) = min a b - max a b := by
  obtain ⟨x, rfl⟩ := ha.exists
  induction b using EReal.rec with
  | bot =>
    rw [EReal.coe_sub_bot, EReal.neg_top, max_eq_left bot_le, EReal.neg_top, min_eq_right bot_le, EReal.bot_sub]
  | top => exact absurd rfl hb
  | coe y =>
    rcases le_total x y with h | h
    · have h' : (x : EReal) ≤ y := EReal.coe_le_coe_iff.mpr h
      rw [min_eq_left h', max_eq_right h', ← EReal.coe_sub, ← EReal.coe_neg, max_eq_right, ← EReal.coe_neg]
      · congr 1; ring
      · exact EReal.coe_le_coe_iff.mpr (by linarith)
    · have h' : (y : EReal) ≤ x := EReal.coe_le_coe_iff.mpr h
      rw [min_eq_right h', max_eq_left h', ← EReal.coe_sub, ← EReal.coe_sub, ← EReal.coe_neg, max_eq_left, ← EReal.coe_neg]
      · congr 1; ring
      · exact EReal.coe_le_coe_iff.mpr (by linarith)

end Cert.Math

end
-- ==== Proof.Value.Row.lean ====
module

public import proofs.«01_k».proof.Proof.Value.Real

/-! One row of scores: the vocabulary's, the copies' on the vocabulary's lanes, and the copies' in their own slots.
The kernel keeps the three apart, with the second padded by −∞ to 3072 lanes; the reference joins them to one row of
6128. This file shows that both find one greatest score and one sum of exponentials. -/

@[expose] public section

noncomputable section

namespace Cert.Math
open Idealize.ShloMosaic

/-- The 6128 lanes in three ranges. -/
theorem forall_lanes (P : Fin 6128 → Prop) :
    (∀ i, P i) ↔ ((∀ i : Fin 3000, P ⟨i, by omega⟩) ∧ (∀ i : Fin 3000, P ⟨3000 + i, by omega⟩)) ∧
      ∀ t : Fin 128, P ⟨6000 + t, by omega⟩ := by
  refine ⟨fun h => ⟨⟨fun i => h _, fun i => h _⟩, fun t => h _⟩, fun ⟨⟨h1, h2⟩, h3⟩ i => ?_⟩
  by_cases a : i.val < 3000
  · exact h1 ⟨i, a⟩
  · by_cases b : i.val < 6000
    · have := h2 ⟨i - 3000, by omega⟩
      rwa [show (⟨3000 + (i.val - 3000), by omega⟩ : Fin 6128) = i from Fin.ext (by simp only; omega)] at this
    · have := h3 ⟨i - 6000, by omega⟩
      rwa [show (⟨6000 + (i.val - 6000), by omega⟩ : Fin 6128) = i from Fin.ext (by simp only; omega)] at this

/-- A sum over a range cut in two. -/
theorem sum_parts {a b n : ℕ} (h : a + b = n) (f : Fin n → EReal) :
    ∑ i, f i = (∑ i : Fin a, f ⟨i, by omega⟩) + ∑ i : Fin b, f ⟨a + i, by omega⟩ := by
  subst h
  exact Fin.sum_univ_add f

/-- A sum over the 6128 lanes, range by range. -/
theorem sum_lanes (f : Fin 6128 → EReal) :
    ∑ i, f i = (∑ i : Fin 3000, f ⟨i, by omega⟩) + (∑ i : Fin 3000, f ⟨3000 + i, by omega⟩)
      + ∑ t : Fin 128, f ⟨6000 + t, by omega⟩ := by
  rw [sum_parts (a := 6000) (b := 128) (by omega) f,
    sum_parts (a := 3000) (b := 3000) (by omega) fun i : Fin 6000 => f ⟨i, by omega⟩]

/-- A sum over 3072 lanes of which the last 72 hold zero. -/
theorem sum_padded (f : Fin 3072 → EReal) (h : ∀ i : Fin 3072, ¬ i.val < 3000 → f i = 0) :
    ∑ i, f i = ∑ i : Fin 3000, f ⟨i, by omega⟩ := by
  rw [sum_parts (a := 3000) (b := 72) (by omega) f, Finset.sum_eq_zero (s := Finset.univ)
    (f := fun i : Fin 72 => f ⟨3000 + i, by omega⟩) (fun i _ => h _ (by simp)), add_zero]

section
variable (gn cp : Fin 3000 → EReal) (sl : Fin 128 → EReal) (cat : Fin 6128 → EReal) (pad : Fin 3072 → EReal)

/-- The kernel's greatest score. -/
def topK : EReal := max (max (greatest gn) (greatest pad)) (greatest sl)
/-- The kernel's sum of exponentials. -/
def sumK : EReal :=
  ∑ i, Ideal.exp (gn i - topK gn sl pad) + ∑ i, Ideal.exp (pad i - topK gn sl pad) + ∑ i, Ideal.exp (sl i - topK gn sl pad)

variable (h1 : ∀ i : Fin 3000, cat ⟨i, by omega⟩ = gn i) (h2 : ∀ i : Fin 3000, cat ⟨3000 + i, by omega⟩ = cp i)
  (h3 : ∀ t : Fin 128, cat ⟨6000 + t, by omega⟩ = sl t)
  (p1 : ∀ i : Fin 3000, pad ⟨i, by omega⟩ = cp i) (p2 : ∀ i : Fin 3072, ¬ i.val < 3000 → pad i = ⊥)
include h1 h2 h3 p1 p2

theorem topK_eq : topK gn sl pad = greatest cat := by
  refine eq_of_forall_ge_iff fun c => ?_
  rw [topK, max_le_iff, max_le_iff, greatest_le_iff, greatest_le_iff, greatest_le_iff, greatest_le_iff, forall_lanes]
  simp only [h1, h2, h3]
  refine and_congr_left fun _ => and_congr_right fun _ => ⟨fun h i => p1 i ▸ h _, fun h i => ?_⟩
  by_cases a : i.val < 3000
  · exact (p1 ⟨i, a⟩).trans_le (h _)
  · rw [p2 i a]; exact bot_le

theorem sumK_eq : sumK gn sl pad = ∑ i, Ideal.exp (cat i - greatest cat) := by
  rw [sumK, topK_eq gn cp sl cat pad h1 h2 h3 p1 p2, sum_lanes, sum_padded]
  · simp only [h1, h2, h3, p1]
  · intro i hi
    rw [p2 i hi, EReal.bot_sub, exp_bot]

/-- The greatest score is real. -/
theorem top_isReal (hg : ∀ i, IsReal (gn i)) (hc : ∀ i, cp i ≠ ⊤) (hs : ∀ t, sl t ≠ ⊤) : IsReal (greatest cat) := by
  refine ⟨greatest_ne_bot _ ⟨⟨0, by omega⟩, ?_⟩, greatest_ne_top _ ?_⟩
  · exact (h1 ⟨0, by omega⟩) ▸ (hg _).1
  · rw [forall_lanes]
    simp only [h1, h2, h3]
    exact ⟨⟨fun i => (hg i).2, hc⟩, hs⟩

/-- The logarithm of the sum of exponentials is real. -/
theorem sum_isReal (hg : ∀ i, IsReal (gn i)) (hc : ∀ i, cp i ≠ ⊤) (hs : ∀ t, sl t ≠ ⊤) :
    IsReal (Ideal.log (∑ i, Ideal.exp (cat i - greatest cat))) := by
  have hm := top_isReal gn cp sl cat pad h1 h2 h3 p1 p2 hg hc hs
  have hw := weights cat ((forall_lanes _).mpr (by simp only [h1, h2, h3]; exact ⟨⟨fun i => (hg i).2, hc⟩, hs⟩))
    ⟨⟨0, by omega⟩, (h1 ⟨0, by omega⟩) ▸ (hg _).1⟩ hm
  exact log_isReal hw.1 hw.2

/-- A score less the logarithm of the normaliser, as the kernel and as the reference compute it. -/
theorem norm_eq (hg : ∀ i, IsReal (gn i)) (hc : ∀ i, cp i ≠ ⊤) (hs : ∀ t, sl t ≠ ⊤) (x : EReal) :
    x - (topK gn sl pad + Ideal.log (sumK gn sl pad))
      = x - max ⊥ (greatest cat) - Ideal.log (∑ i, Ideal.exp (cat i - max ⊥ (greatest cat))) := by
  rw [max_eq_right bot_le, topK_eq gn cp sl cat pad h1 h2 h3 p1 p2, sumK_eq gn cp sl cat pad h1 h2 h3 p1 p2]
  exact sub_sub_real x (top_isReal gn cp sl cat pad h1 h2 h3 p1 p2 hg hc hs)
    (sum_isReal gn cp sl cat pad h1 h2 h3 p1 p2 hg hc hs)

/-- The shifted scores: real where the score is, never +∞ where it is not. -/
theorem norm_isReal (hg : ∀ i, IsReal (gn i)) (hc : ∀ i, cp i ≠ ⊤) (hs : ∀ t, sl t ≠ ⊤) :
    IsReal (topK gn sl pad + Ideal.log (sumK gn sl pad)) := by
  rw [topK_eq gn cp sl cat pad h1 h2 h3 p1 p2, sumK_eq gn cp sl cat pad h1 h2 h3 p1 p2]
  exact (top_isReal gn cp sl cat pad h1 h2 h3 p1 p2 hg hc hs).add (sum_isReal gn cp sl cat pad h1 h2 h3 p1 p2 hg hc hs)
end

/-! ## The copies -/

section
variable (sm : Fin 128 → EReal) (nk : Fin 128 → BitVec 32)

/-- The scores of the copies of word `n`, added up. -/
def copies (n : BitVec 32) : EReal := ∑ t, Scalar.select (IntOp.cmpi .eq (nk t) n) (sm t) 0

/-- A copy's score in its own slot, if its word is past the vocabulary. -/
def slots (t : Fin 128) : EReal := Scalar.select (IntOp.cmpi .sge (nk t) 3000#32) (sm t) 0

/-- The lane a copy points to: its word's, or its own slot past the vocabulary. -/
def lane (t : Fin 128) : BitVec 32 :=
  Scalar.select (IntOp.cmpi .slt (nk t) 3000#32) (nk t) (IntOp.addi 3000#32 (BitVec.ofNat 32 t))

theorem select_ofBool (b : Bool) {α : Type} (x y : α) : Scalar.select (BitVec.ofBool b) x y = if b then x else y := by
  cases b <;> rfl

theorem copies_ne_top (hs : ∀ t, sm t ≠ ⊤) (n : BitVec 32) : copies sm nk n ≠ ⊤ := by
  refine sum_ne_top _ (fun t => ?_) _
  simp only [IntOp.cmpi, select_ofBool]
  split
  · exact hs t
  · exact EReal.zero_ne_top

theorem slots_ne_top (hs : ∀ t, sm t ≠ ⊤) (t : Fin 128) : slots sm nk t ≠ ⊤ := by
  simp only [slots, IntOp.cmpi, select_ofBool]
  split
  · exact hs t
  · exact EReal.zero_ne_top

theorem mul_hot (x : EReal) (b : Bool) : x * (if b then 1 else 0) = if b then x else 0 := by
  cases b <;> simp

theorem select_eq (a b : BitVec 32) (x y : EReal) : Scalar.select (IntOp.cmpi .eq a b) x y = if a = b then x else y := by
  simp only [IntOp.cmpi, select_ofBool, beq_iff_eq]

theorem select_sge (a b : BitVec 32) {α : Type} (x y : α) :
    Scalar.select (IntOp.cmpi .sge a b) x y = if b.toInt ≤ a.toInt then x else y := by
  simp only [IntOp.cmpi, select_ofBool, BitVec.sle, decide_eq_true_eq]

theorem select_slt (a b : BitVec 32) {α : Type} (x y : α) :
    Scalar.select (IntOp.cmpi .slt a b) x y = if a.toInt < b.toInt then x else y := by
  simp only [IntOp.cmpi, select_ofBool, BitVec.slt, decide_eq_true_eq]

theorem toInt_ofNat (n : ℕ) (h : n < 10000) : (BitVec.ofNat 32 n).toInt = n := by
  have e : (BitVec.ofNat 32 n).toNat = n := by
    rw [BitVec.toNat_ofNat]
    exact Nat.mod_eq_of_lt (by omega)
  rw [BitVec.toInt_eq_toNat_of_lt (by omega), e]

/-- A copy points to the lane of a word exactly if it is a copy of that word. -/
theorem lane_word (t : Fin 128) (n : ℕ) (hn : n < 3000) : lane nk t = BitVec.ofNat 32 n ↔ nk t = BitVec.ofNat 32 n := by
  have e := toInt_ofNat n (by omega)
  rw [lane, select_slt]
  split
  · rfl
  · rename_i h
    have hv : (3000#32 : BitVec 32).toInt = 3000 := rfl
    rw [hv] at h
    refine ⟨fun a => absurd (congrArg BitVec.toInt a) ?_, fun a => absurd (congrArg BitVec.toInt a) ?_⟩
    · rw [e, show IntOp.addi 3000#32 (BitVec.ofNat 32 t) = BitVec.ofNat 32 (3000 + t) from
        (BitVec.ofNat_add 3000 (t : ℕ)).symm, toInt_ofNat _ (by omega)]
      omega
    · rw [e]; omega

/-- A copy points to slot `j` exactly if it is copy `j` and its word is past the vocabulary. -/
theorem lane_slot (t j : Fin 128) : lane nk t = BitVec.ofNat 32 (3000 + j) ↔ t = j ∧ (3000#32).toInt ≤ (nk t).toInt := by
  have e := toInt_ofNat (3000 + j) (by omega)
  have hv : (3000#32 : BitVec 32).toInt = 3000 := rfl
  rw [lane, select_slt, hv]
  split
  · rename_i h
    refine ⟨fun a => absurd (congrArg BitVec.toInt a) ?_, fun ⟨_, a⟩ => by omega⟩
    rw [e]; omega
  · rename_i h
    rw [show IntOp.addi 3000#32 (BitVec.ofNat 32 t) = BitVec.ofNat 32 (3000 + t) from (BitVec.ofNat_add 3000 (t : ℕ)).symm]
    refine ⟨fun a => ⟨Fin.ext ?_, by omega⟩, fun a => by rw [a.1]⟩
    have a := congrArg BitVec.toInt a
    rw [e, toInt_ofNat _ (by omega)] at a
    omega

variable (hot : Fin 128 → ℕ → EReal) (hh : ∀ t (n : ℕ), n < 3128 → hot t n = if lane nk t == BitVec.ofNat 32 n then 1 else 0)
include hh

/-- The product with the one-hot rows, on a word's lane. -/
theorem hot_word (n : ℕ) (hn : n < 3000) : ∑ t, sm t * hot t n = copies sm nk (BitVec.ofNat 32 n) := by
  refine Finset.sum_congr rfl fun t _ => ?_
  rw [hh t n (by omega), mul_hot, select_eq]
  simp only [beq_iff_eq, lane_word nk t n hn]

/-- The product with the one-hot rows, on a copy's own slot. -/
theorem hot_slot (j : Fin 128) : ∑ t, sm t * hot t (3000 + j) = slots sm nk j := by
  rw [slots, select_sge, Finset.sum_eq_single j]
  · rw [hh j _ (by omega), mul_hot]
    simp only [beq_iff_eq, lane_slot, true_and]
  · intro t _ ht
    rw [hh t _ (by omega), mul_hot]
    simp only [beq_iff_eq, lane_slot, ht, false_and, if_false]
  · exact fun h => absurd (Finset.mem_univ j) h
end

end Cert.Math
-- ==== Proof.Value.Scatter.lean ====
module

public import proofs.«01_k».proof.Proof.Gen.ReferenceIdeal.Read
public import proofs.«01_k».proof.Proof.Value.Row
public import Idealize.ShloMosaic.Lib.Pointwise
public import Idealize.ShloMosaic.Lib.Routing.OpsPair
public import Idealize.ShloMosaic.Lib.Routing.OpsSet

/-! The reference's two scatters, read at an element: the accumulation of the slots' shares at their word's lane, and the
vocabulary's lanes written over it. -/

@[expose] public section

noncomputable section

namespace Cert.ReferenceIdeal.Rows
open Cert.ReferenceIdeal Cert.ReferenceIdeal.Read Cert.Math
open Idealize.ShloMosaic Idealize.ShloMosaic.TcCoe

/-- The accumulation's dimension numbers. -/
abbrev dAdd := scatter_S128x1x3400_S128x128x3_S128x128_n_012_012_2
/-- The write's dimension numbers. -/
abbrev dSet := scatter_S128x1x3400_S1_S128x1x3000_012_n_2_0

theorem add_window (k : S128x128.Idx) (q : Fin 3) : dAdd.window k q = 0 := by
  unfold ScatterDims.window
  rw [dif_neg fun h => (of_decide_eq_true (List.mem_filter.1 h).2) (by show q ∈ [(0 : Fin 3), 1, 2]; fin_cases q <;> simp)]

theorem add_start (idx : IVec S128x128x3 32) (b t : Fin 128) (q : Fin 3) : dAdd.start (ix2 b t) idx q = (idx (ix3 b t q)).toInt := by
  unfold ScatterDims.start
  rw [dif_pos (by show q ∈ [(0 : Fin 3), 1, 2]; fin_cases q <;> simp)]
  congr 2
  funext a
  fin_cases a
  · rfl
  · rfl
  · fin_cases q <;> rfl

theorem add_lands (idx : IVec S128x128x3 32) (b t : Fin 128) (c : Fin 128) (l : Fin 3400) :
    dAdd.resultIdx? (ix2 b t) idx = some (ix3 c 0 l) ↔
      (idx (ix3 b t 0)).toInt = c.val ∧ (idx (ix3 b t 1)).toInt = 0 ∧ (idx (ix3 b t 2)).toInt = l.val := by
  rw [Routing.resultIdx?_eq_some]
  constructor
  · intro h
    have h0 := h 0
    have h1 := h 1
    have h2 := h 2
    rw [add_window, add_start] at h0 h1 h2
    simp only [Nat.cast_zero, add_zero] at h0 h1 h2
    exact ⟨h0, h1, h2⟩
  · intro h a
    rw [add_window, add_start]
    simp only [Nat.cast_zero, add_zero]
    fin_cases a
    · exact h.1
    · exact h.2.1
    · exact h.2.2

/-- The accumulation read at a lane, when the words of update (b, t) are its row, 0 and its lane `w b t`. -/
theorem add_apply (x : FVec Ideal S128x1x3400 .f32) (idx : IVec S128x128x3 32) (upd : FVec Ideal S128x128 .f32) (w : IVec S128x128 32)
    (h0 : ∀ b t, (idx (ix3 b t 0)).toInt = b.val) (h1 : ∀ b t, (idx (ix3 b t 1)).toInt = 0) (h2 : ∀ b t, idx (ix3 b t 2) = w (ix2 b t))
    (b : Fin 128) (l : Fin 3400) :
    Host.scatterAdd dAdd x idx upd (ix3 b 0 l) = x (ix3 b 0 l) + ∑ t : Fin 128, if (w (ix2 b t)).toInt = l.val then upd (ix2 b t) else 0 := by
  show Ideal.hostScatterAdd dAdd x idx upd (ix3 b 0 l) = _
  unfold Ideal.hostScatterAdd
  congr 1
  rw [← Finset.sum_filter]
  symm
  refine Finset.sum_bij (fun t _ => ix2 b t) ?_ ?_ ?_ ?_
  · intro t ht
    rw [Finset.mem_filter] at ht ⊢
    exact ⟨Finset.mem_univ _, (add_lands idx b t b l).2 ⟨h0 b t, h1 b t, by rw [h2]; exact ht.2⟩⟩
  · intro t _ t' _ h
    exact congrFun h 1
  · intro j hj
    obtain ⟨c, t, rfl⟩ : ∃ c t : Fin 128, j = ix2 c t := ⟨j 0, j 1, by funext a; fin_cases a <;> rfl⟩
    rw [Finset.mem_filter] at hj
    have h := (add_lands idx c t b l).1 hj.2
    have hc : c = b := Fin.ext (by have := h.1; rw [h0] at this; omega)
    subst hc
    exact ⟨t, Finset.mem_filter.2 ⟨Finset.mem_univ _, by rw [← h2]; exact h.2.2⟩, rfl⟩
  · intro t _
    rfl

theorem set_start (idx : IVec S1 32) (h : idx = fun _ => 0#32) (k : S128x1x3000.Idx) (q : Fin 3) : dSet.start k idx q = 0 := by
  subst h
  unfold ScatterDims.start
  split <;> rfl

theorem set_window (k : S128x1x3000.Idx) (q : Fin 3) : dSet.window k q = (k q).val := by
  fin_cases q <;> rfl

theorem set_lands (idx : IVec S1 32) (h : idx = fun _ => 0#32) (k : S128x1x3000.Idx) (b : Fin 128) (l : Fin 3400) :
    dSet.resultIdx? k idx = some (ix3 b 0 l) ↔ (k 0).val = b.val ∧ (k 2).val = l.val := by
  rw [Routing.resultIdx?_eq_some]
  constructor
  · intro e
    have h0 := e 0
    have h2 := e 2
    rw [set_window, set_start idx h] at h0 h2
    simp only [zero_add, Nat.cast_inj] at h0 h2
    exact ⟨h0, h2⟩
  · intro e a
    rw [set_window, set_start idx h]
    simp only [zero_add, Nat.cast_inj]
    fin_cases a
    · exact e.1
    · have : (k 1).val < 1 := (k 1).isLt
      show (k 1).val = 0
      omega
    · exact e.2

theorem set_voc (x : FVec Ideal S128x1x3400 .f32) (idx : IVec S1 32) (h : idx = fun _ => 0#32) (upd : FVec Ideal S128x1x3000 .f32)
    (b : Fin 128) (l : Fin 3000) : Host.scatter dSet (fun _ b => b) x idx upd (ix3 b 0 ⟨l, by omega⟩) = upd (ix3 b 0 l) := by
  refine Routing.scatter_set_hit dSet x idx upd _ _ ?_ (ix3 b 0 l) ((set_lands idx h _ b _).2 ⟨rfl, rfl⟩)
  intro k hk
  have e := (set_lands idx h k b _).1 hk
  have : k = ix3 b 0 l := by
    funext a
    fin_cases a
    · exact Fin.ext e.1
    · exact Fin.ext (by
        have : (k 1).val < 1 := (k 1).isLt
        show (k 1).val = 0
        omega)
    · exact Fin.ext e.2
  rw [this]

theorem set_oov (x : FVec Ideal S128x1x3400 .f32) (idx : IVec S1 32) (h : idx = fun _ => 0#32) (upd : FVec Ideal S128x1x3000 .f32)
    (b : Fin 128) (l : Fin 400) : Host.scatter dSet (fun _ b => b) x idx upd (ix3 b 0 ⟨3000 + l, by omega⟩) = x (ix3 b 0 ⟨3000 + l, by omega⟩) := by
  refine Routing.scatter_set_miss dSet x idx upd _ ?_
  intro k hk
  have e := (set_lands idx h k b _).1 hk
  have : (k 2).val < 3000 := (k 2).isLt
  have h2 := e.2
  simp only at h2
  omega

/-- The words of the accumulation's update (b, t). -/
theorem words0 (x9 : (⟨S128x128, .i32⟩ : BufTy).Contents (Elt Ideal)) (b t : Fin 128) : (val_main_v178 (F := Ideal) x9 (ix3 b t 0)).toInt = b.val := by
  have e : val_main_v178 (F := Ideal) x9 (ix3 b t 0) = BitVec.ofNat 32 b := by
    pointwise [val_main_v178, val_main_v175, val_main_v172, val_main_v166, val_main_v163, val_main_v165, val_main_v160, val_main_v159, val_main_v162, val_main_c_24]
    rw [select_slt, toInt_ofNat _ (by omega), if_neg (by have : (0#32 : BitVec 32).toInt = 0 := rfl
                                                         omega)]
  rw [e, toInt_ofNat _ (by omega)]

theorem words1 (x9 : (⟨S128x128, .i32⟩ : BufTy).Contents (Elt Ideal)) (b t : Fin 128) : (val_main_v178 (F := Ideal) x9 (ix3 b t 1)).toInt = 0 := by
  have e : val_main_v178 (F := Ideal) x9 (ix3 b t 1) = 0#32 := by
    pointwise [val_main_v178, val_main_v176, val_main_v174, val_main_v173, val_main_c_28]
    rfl
  rw [e]
  rfl

theorem words2 (x9 : (⟨S128x128, .i32⟩ : BufTy).Contents (Elt Ideal)) (b t : Fin 128) :
    val_main_v178 (F := Ideal) x9 (ix3 b t 2) = val_main_v171 (F := Ideal) x9 (ix2 b t) := by
  pointwise [val_main_v178, val_main_v177]

theorem wrapped (x9 : (⟨S128x128, .i32⟩ : BufTy).Contents (Elt Ideal)) (b t : Fin 128) (h : 3000 ≤ (x9 (ix2 b t)).toInt) :
    val_main_v171 (F := Ideal) x9 (ix2 b t) = x9 (ix2 b t) := by
  pointwise [val_main_v171, val_main_v168, val_main_v167, val_main_c_26]
  rw [select_slt, if_neg (by have : (0#32 : BitVec 32).toInt = 0 := rfl
                             omega)]

end Cert.ReferenceIdeal.Rows
-- ==== Proof.Value.Accum.lean ====
module

public import proofs.«01_k».proof.Proof.KernelIdeal.Scores
public import Idealize.ShloMosaic.Lib.Pointwise

/-! The kernel adds a copy position's share to the lane of the position's word, one position after
the other. This file reads that as one sum over the 128 copy positions. -/

@[expose] public section

noncomputable section

namespace Cert.KernelIdeal.Scores
open Cert.KernelIdeal Cert.KernelIdeal.Gen
open Idealize.ShloMosaic Idealize.ShloMosaic.TcCoe

/-- The sum of the first `n` terms, added one after the other. -/
def upTo (f : ℕ → EReal) : ℕ → EReal
  | 0 => 0
  | n + 1 => upTo f n + f n

theorem upTo_eq (f : ℕ → EReal) (n : ℕ) : upTo f n = ∑ t ∈ Finset.range n, f t := by
  induction n with
  | zero => rfl
  | succ n ih => rw [Finset.sum_range_succ, ← ih]; rfl

/-- Whether copy position `t` of row `r` stands for the word `n`. -/
abbrev isWord (w : IVec S16x128 32) (r : Fin 16) (n : BitVec 32) (t : ℕ) : BitVec 1 :=
  IntOp.cmpi .eq (w (ix2 r (Fin.ofNat 128 t))) n

/-- What copy position `t` of row `r` adds to the lane of the word `n`. -/
def part (x : FVec Ideal S16x128 .f32) (w : IVec S16x128 32) (r : Fin 16) (n : BitVec 32) (t : ℕ) : EReal :=
  Scalar.select (isWord w r n t) (x (ix2 r (Fin.ofNat 128 t))) 0

theorem upTo_part (x : FVec Ideal S16x128 .f32) (w : IVec S16x128 32) (r : Fin 16) (n : BitVec 32) :
    upTo (part x w r n) 128 = ∑ t : Fin 128, Scalar.select (IntOp.cmpi .eq (w (ix2 r t)) n) (x (ix2 r t)) 0 := by
  rw [upTo_eq, Finset.sum_range]
  refine Finset.sum_congr rfl fun t _ => ?_
  have e : Fin.ofNat 128 (t : ℕ) = t := Fin.ext (Nat.mod_eq_of_lt t.isLt)
  simp only [part, isWord, e]

theorem read10 (x : FVec Ideal S16x128 .f32) (w : IVec S16x128 32) (r : Fin 16) (l : Fin 3072) :
    k1_pay10 x w la 3000#32 (ix2 r l) = upTo (part x w r (vl (ix2 r l))) 5 := by
  pointwise [k1_pay10, vl]
  generalize k1_pay9 la (3000#32) (ix2 r l) = n
  rw [upTo_eq]
  simp only [Finset.sum_range_succ, Finset.sum_range_zero, zero_add]
  rfl
theorem read11 (w : IVec S16x128 32) (r : Fin 16) (l : Fin 3072) :
    k1_pay11 w la 3000#32 (ix2 r l) = isWord w r (vl (ix2 r l)) 5 := by
  pointwise [k1_pay11, vl] <;> rfl

theorem read12 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 5) (hh : h (ix2 r l) = isWord w r (v (ix2 r l)) 5) :
    k1_pay12 x w v a h (ix2 r l) = upTo (part x w r (v (ix2 r l))) 11 := by
  pointwise [k1_pay12]
  rw [ha, hh]
  rfl
theorem read13 (w : IVec S16x128 32) (v : IVec S16x3072 32) (r : Fin 16) (l : Fin 3072) :
    k1_pay13 w v (ix2 r l) = isWord w r (v (ix2 r l)) 11 := by
  pointwise [k1_pay13] <;> rfl

theorem read14 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 11) (hh : h (ix2 r l) = isWord w r (v (ix2 r l)) 11) :
    k1_pay14 x w v a h (ix2 r l) = upTo (part x w r (v (ix2 r l))) 17 := by
  pointwise [k1_pay14]
  rw [ha, hh]
  rfl
theorem read15 (w : IVec S16x128 32) (v : IVec S16x3072 32) (r : Fin 16) (l : Fin 3072) :
    k1_pay15 w v (ix2 r l) = isWord w r (v (ix2 r l)) 17 := by
  pointwise [k1_pay15] <;> rfl

theorem read16 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 17) (hh : h (ix2 r l) = isWord w r (v (ix2 r l)) 17) :
    k1_pay16 x w v a h (ix2 r l) = upTo (part x w r (v (ix2 r l))) 23 := by
  pointwise [k1_pay16]
  rw [ha, hh]
  rfl
theorem read17 (w : IVec S16x128 32) (v : IVec S16x3072 32) (r : Fin 16) (l : Fin 3072) :
    k1_pay17 w v (ix2 r l) = isWord w r (v (ix2 r l)) 23 := by
  pointwise [k1_pay17] <;> rfl

theorem read18 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 23) (hh : h (ix2 r l) = isWord w r (v (ix2 r l)) 23) :
    k1_pay18 x w v a h (ix2 r l) = upTo (part x w r (v (ix2 r l))) 29 := by
  pointwise [k1_pay18]
  rw [ha, hh]
  rfl
theorem read19 (w : IVec S16x128 32) (v : IVec S16x3072 32) (r : Fin 16) (l : Fin 3072) :
    k1_pay19 w v (ix2 r l) = isWord w r (v (ix2 r l)) 29 := by
  pointwise [k1_pay19] <;> rfl

theorem read20 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 29) (hh : h (ix2 r l) = isWord w r (v (ix2 r l)) 29) :
    k1_pay20 x w v a h (ix2 r l) = upTo (part x w r (v (ix2 r l))) 35 := by
  pointwise [k1_pay20]
  rw [ha, hh]
  rfl
theorem read21 (w : IVec S16x128 32) (v : IVec S16x3072 32) (r : Fin 16) (l : Fin 3072) :
    k1_pay21 w v (ix2 r l) = isWord w r (v (ix2 r l)) 35 := by
  pointwise [k1_pay21] <;> rfl

theorem read22 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 35) (hh : h (ix2 r l) = isWord w r (v (ix2 r l)) 35) :
    k1_pay22 x w v a h (ix2 r l) = upTo (part x w r (v (ix2 r l))) 41 := by
  pointwise [k1_pay22]
  rw [ha, hh]
  rfl
theorem read23 (w : IVec S16x128 32) (v : IVec S16x3072 32) (r : Fin 16) (l : Fin 3072) :
    k1_pay23 w v (ix2 r l) = isWord w r (v (ix2 r l)) 41 := by
  pointwise [k1_pay23] <;> rfl

theorem read24 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 41) (hh : h (ix2 r l) = isWord w r (v (ix2 r l)) 41) :
    k1_pay24 x w v a h (ix2 r l) = upTo (part x w r (v (ix2 r l))) 47 := by
  pointwise [k1_pay24]
  rw [ha, hh]
  rfl
theorem read25 (w : IVec S16x128 32) (v : IVec S16x3072 32) (r : Fin 16) (l : Fin 3072) :
    k1_pay25 w v (ix2 r l) = isWord w r (v (ix2 r l)) 47 := by
  pointwise [k1_pay25] <;> rfl

theorem read26 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 47) (hh : h (ix2 r l) = isWord w r (v (ix2 r l)) 47) :
    k1_pay26 x w v a h (ix2 r l) = upTo (part x w r (v (ix2 r l))) 53 := by
  pointwise [k1_pay26]
  rw [ha, hh]
  rfl
theorem read27 (w : IVec S16x128 32) (v : IVec S16x3072 32) (r : Fin 16) (l : Fin 3072) :
    k1_pay27 w v (ix2 r l) = isWord w r (v (ix2 r l)) 53 := by
  pointwise [k1_pay27] <;> rfl

theorem read28 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 53) (hh : h (ix2 r l) = isWord w r (v (ix2 r l)) 53) :
    k1_pay28 x w v a h (ix2 r l) = upTo (part x w r (v (ix2 r l))) 59 := by
  pointwise [k1_pay28]
  rw [ha, hh]
  rfl
theorem read29 (w : IVec S16x128 32) (v : IVec S16x3072 32) (r : Fin 16) (l : Fin 3072) :
    k1_pay29 w v (ix2 r l) = isWord w r (v (ix2 r l)) 59 := by
  pointwise [k1_pay29] <;> rfl

theorem read30 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 59) (hh : h (ix2 r l) = isWord w r (v (ix2 r l)) 59) :
    k1_pay30 x w v a h (ix2 r l) = upTo (part x w r (v (ix2 r l))) 65 := by
  pointwise [k1_pay30]
  rw [ha, hh]
  rfl
theorem read31 (w : IVec S16x128 32) (v : IVec S16x3072 32) (r : Fin 16) (l : Fin 3072) :
    k1_pay31 w v (ix2 r l) = isWord w r (v (ix2 r l)) 65 := by
  pointwise [k1_pay31] <;> rfl

theorem read32 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 65) (hh : h (ix2 r l) = isWord w r (v (ix2 r l)) 65) :
    k1_pay32 x w v a h (ix2 r l) = upTo (part x w r (v (ix2 r l))) 71 := by
  pointwise [k1_pay32]
  rw [ha, hh]
  rfl
theorem read33 (w : IVec S16x128 32) (v : IVec S16x3072 32) (r : Fin 16) (l : Fin 3072) :
    k1_pay33 w v (ix2 r l) = isWord w r (v (ix2 r l)) 71 := by
  pointwise [k1_pay33] <;> rfl

theorem read34 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 71) (hh : h (ix2 r l) = isWord w r (v (ix2 r l)) 71) :
    k1_pay34 x w v a h (ix2 r l) = upTo (part x w r (v (ix2 r l))) 77 := by
  pointwise [k1_pay34]
  rw [ha, hh]
  rfl
theorem read35 (w : IVec S16x128 32) (v : IVec S16x3072 32) (r : Fin 16) (l : Fin 3072) :
    k1_pay35 w v (ix2 r l) = isWord w r (v (ix2 r l)) 77 := by
  pointwise [k1_pay35] <;> rfl

theorem read36 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 77) (hh : h (ix2 r l) = isWord w r (v (ix2 r l)) 77) :
    k1_pay36 x w v a h (ix2 r l) = upTo (part x w r (v (ix2 r l))) 83 := by
  pointwise [k1_pay36]
  rw [ha, hh]
  rfl
theorem read37 (w : IVec S16x128 32) (v : IVec S16x3072 32) (r : Fin 16) (l : Fin 3072) :
    k1_pay37 w v (ix2 r l) = isWord w r (v (ix2 r l)) 83 := by
  pointwise [k1_pay37] <;> rfl

theorem read38 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 83) (hh : h (ix2 r l) = isWord w r (v (ix2 r l)) 83) :
    k1_pay38 x w v a h (ix2 r l) = upTo (part x w r (v (ix2 r l))) 89 := by
  pointwise [k1_pay38]
  rw [ha, hh]
  rfl
theorem read39 (w : IVec S16x128 32) (v : IVec S16x3072 32) (r : Fin 16) (l : Fin 3072) :
    k1_pay39 w v (ix2 r l) = isWord w r (v (ix2 r l)) 89 := by
  pointwise [k1_pay39] <;> rfl

theorem read40 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 89) (hh : h (ix2 r l) = isWord w r (v (ix2 r l)) 89) :
    k1_pay40 x w v a h (ix2 r l) = upTo (part x w r (v (ix2 r l))) 95 := by
  pointwise [k1_pay40]
  rw [ha, hh]
  rfl
theorem read41 (w : IVec S16x128 32) (v : IVec S16x3072 32) (r : Fin 16) (l : Fin 3072) :
    k1_pay41 w v (ix2 r l) = isWord w r (v (ix2 r l)) 95 := by
  pointwise [k1_pay41] <;> rfl

theorem read42 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 95) (hh : h (ix2 r l) = isWord w r (v (ix2 r l)) 95) :
    k1_pay42 x w v a h (ix2 r l) = upTo (part x w r (v (ix2 r l))) 101 := by
  pointwise [k1_pay42]
  rw [ha, hh]
  rfl
theorem read43 (w : IVec S16x128 32) (v : IVec S16x3072 32) (r : Fin 16) (l : Fin 3072) :
    k1_pay43 w v (ix2 r l) = isWord w r (v (ix2 r l)) 101 := by
  pointwise [k1_pay43] <;> rfl

theorem read44 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 101) (hh : h (ix2 r l) = isWord w r (v (ix2 r l)) 101) :
    k1_pay44 x w v a h (ix2 r l) = upTo (part x w r (v (ix2 r l))) 107 := by
  pointwise [k1_pay44]
  rw [ha, hh]
  rfl
theorem read45 (w : IVec S16x128 32) (v : IVec S16x3072 32) (r : Fin 16) (l : Fin 3072) :
    k1_pay45 w v (ix2 r l) = isWord w r (v (ix2 r l)) 107 := by
  pointwise [k1_pay45] <;> rfl

theorem read46 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 107) (hh : h (ix2 r l) = isWord w r (v (ix2 r l)) 107) :
    k1_pay46 x w v a h (ix2 r l) = upTo (part x w r (v (ix2 r l))) 113 := by
  pointwise [k1_pay46]
  rw [ha, hh]
  rfl
theorem read47 (w : IVec S16x128 32) (v : IVec S16x3072 32) (r : Fin 16) (l : Fin 3072) :
    k1_pay47 w v (ix2 r l) = isWord w r (v (ix2 r l)) 113 := by
  pointwise [k1_pay47] <;> rfl

theorem read48 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 113) (hh : h (ix2 r l) = isWord w r (v (ix2 r l)) 113) :
    k1_pay48 x w v a h (ix2 r l) = upTo (part x w r (v (ix2 r l))) 119 := by
  pointwise [k1_pay48]
  rw [ha, hh]
  rfl
theorem read49 (w : IVec S16x128 32) (v : IVec S16x3072 32) (r : Fin 16) (l : Fin 3072) :
    k1_pay49 w v (ix2 r l) = isWord w r (v (ix2 r l)) 119 := by
  pointwise [k1_pay49] <;> rfl

theorem read50 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 119) (hh : h (ix2 r l) = isWord w r (v (ix2 r l)) 119) :
    k1_pay50 x w v a h (ix2 r l) = upTo (part x w r (v (ix2 r l))) 125 := by
  pointwise [k1_pay50]
  rw [ha, hh]
  rfl
theorem read51 (w : IVec S16x128 32) (v : IVec S16x3072 32) (r : Fin 16) (l : Fin 3072) :
    k1_pay51 w v (ix2 r l) = isWord w r (v (ix2 r l)) 125 := by
  pointwise [k1_pay51] <;> rfl

theorem read52 (x : FVec Ideal S16x128 .f32) (w : IVec S16x128 32) (v : IVec S16x3072 32) (r : Fin 16) (l : Fin 3072) (a : FVec Ideal S16x3072 .f32) (h : IVec S16x3072 1)
    (ha : a (ix2 r l) = upTo (part x w r (v (ix2 r l))) 125) (hh : h (ix2 r l) = isWord w r (v (ix2 r l)) 125) :
    k1_pay52 x w v a h (ix2 r l) = upTo (part x w r (v (ix2 r l))) 128 := by
  pointwise [k1_pay52]
  rw [ha, hh]
  rfl
/-- The copies' scores on the vocabulary's lanes. -/
theorem read_acc (x : FVec Ideal S16x128 .f32) (w : IVec S16x128 32) (r : Fin 16) (l : Fin 3072) :
    k1_pay52 x w vl (acc x w) (hit w) (ix2 r l)
      = ∑ t : Fin 128, Scalar.select (IntOp.cmpi .eq (w (ix2 r t)) (vl (ix2 r l))) (x (ix2 r t)) 0 := by
  rw [← upTo_part]
  exact read52 x w vl r l _ _ (read50 x w vl r l _ _ (read48 x w vl r l _ _ (read46 x w vl r l _ _ (read44 x w vl r l _ _ (read42 x w vl r l _ _ (read40 x w vl r l _ _ (read38 x w vl r l _ _ (read36 x w vl r l _ _ (read34 x w vl r l _ _ (read32 x w vl r l _ _ (read30 x w vl r l _ _ (read28 x w vl r l _ _ (read26 x w vl r l _ _ (read24 x w vl r l _ _ (read22 x w vl r l _ _ (read20 x w vl r l _ _ (read18 x w vl r l _ _ (read16 x w vl r l _ _ (read14 x w vl r l _ _ (read12 x w vl r l _ _ (read10 x w r l) (read11 w r l)) (read13 w vl r l)) (read15 w vl r l)) (read17 w vl r l)) (read19 w vl r l)) (read21 w vl r l)) (read23 w vl r l)) (read25 w vl r l)) (read27 w vl r l)) (read29 w vl r l)) (read31 w vl r l)) (read33 w vl r l)) (read35 w vl r l)) (read37 w vl r l)) (read39 w vl r l)) (read41 w vl r l)) (read43 w vl r l)) (read45 w vl r l)) (read47 w vl r l)) (read49 w vl r l)) (read51 w vl r l)

theorem read61 (x : FVec Ideal S16x128 .f32) (w : IVec S16x128 32) (m z : FVec Ideal S16x1 .f32) (e : FVec Ideal S16x128 .f32)
    (r : Fin 16) (l : Fin 512) :
    k1_pay61 x w m z e (ix2 r l) = upTo (part (k1_pay59 x w m z e) w r (k1_pay60 (ix2 r l))) 2 := by
  pointwise [k1_pay61]
  generalize k1_pay59 x w m z e = y
  generalize k1_pay60 (ix2 r l) = n
  rw [upTo_eq]
  simp only [Finset.sum_range_succ, Finset.sum_range_zero, zero_add]
  rfl
theorem read62 (w : IVec S16x128 32) (r : Fin 16) (l : Fin 512) :
    k1_pay62 w (ix2 r l) = w (ix2 r 2) := by
  pointwise [k1_pay62]

theorem read63 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 2) (hh : h (ix2 r l) = w (ix2 r 2)) :
    k1_pay63 w x v a h (ix2 r l) = upTo (part x w r (v (ix2 r l))) 8 := by
  pointwise [k1_pay63]
  rw [ha, hh]
  rfl

theorem read64 (w : IVec S16x128 32) (r : Fin 16) (l : Fin 512) :
    k1_pay64 w (ix2 r l) = w (ix2 r 8) := by
  pointwise [k1_pay64] <;> rfl

theorem read65 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 8) (hh : h (ix2 r l) = w (ix2 r 8)) :
    k1_pay65 w x v a h (ix2 r l) = upTo (part x w r (v (ix2 r l))) 14 := by
  pointwise [k1_pay65]
  rw [ha, hh]
  rfl

theorem read66 (w : IVec S16x128 32) (r : Fin 16) (l : Fin 512) :
    k1_pay66 w (ix2 r l) = w (ix2 r 14) := by
  pointwise [k1_pay66] <;> rfl

theorem read67 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 14) (hh : h (ix2 r l) = w (ix2 r 14)) :
    k1_pay67 w x v a h (ix2 r l) = upTo (part x w r (v (ix2 r l))) 20 := by
  pointwise [k1_pay67]
  rw [ha, hh]
  rfl

theorem read68 (w : IVec S16x128 32) (r : Fin 16) (l : Fin 512) :
    k1_pay68 w (ix2 r l) = w (ix2 r 20) := by
  pointwise [k1_pay68] <;> rfl

theorem read69 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 20) (hh : h (ix2 r l) = w (ix2 r 20)) :
    k1_pay69 w x v a h (ix2 r l) = upTo (part x w r (v (ix2 r l))) 26 := by
  pointwise [k1_pay69]
  rw [ha, hh]
  rfl

theorem read70 (w : IVec S16x128 32) (r : Fin 16) (l : Fin 512) :
    k1_pay70 w (ix2 r l) = w (ix2 r 26) := by
  pointwise [k1_pay70] <;> rfl

theorem read71 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 26) (hh : h (ix2 r l) = w (ix2 r 26)) :
    k1_pay71 w x v a h (ix2 r l) = upTo (part x w r (v (ix2 r l))) 32 := by
  pointwise [k1_pay71]
  rw [ha, hh]
  rfl

theorem read72 (w : IVec S16x128 32) (r : Fin 16) (l : Fin 512) :
    k1_pay72 w (ix2 r l) = w (ix2 r 32) := by
  pointwise [k1_pay72] <;> rfl

theorem read73 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 32) (hh : h (ix2 r l) = w (ix2 r 32)) :
    k1_pay73 w x v a h (ix2 r l) = upTo (part x w r (v (ix2 r l))) 38 := by
  pointwise [k1_pay73]
  rw [ha, hh]
  rfl

theorem read74 (w : IVec S16x128 32) (r : Fin 16) (l : Fin 512) :
    k1_pay74 w (ix2 r l) = w (ix2 r 38) := by
  pointwise [k1_pay74] <;> rfl

theorem read75 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 38) (hh : h (ix2 r l) = w (ix2 r 38)) :
    k1_pay75 w x v a h (ix2 r l) = upTo (part x w r (v (ix2 r l))) 44 := by
  pointwise [k1_pay75]
  rw [ha, hh]
  rfl

theorem read76 (w : IVec S16x128 32) (r : Fin 16) (l : Fin 512) :
    k1_pay76 w (ix2 r l) = w (ix2 r 44) := by
  pointwise [k1_pay76] <;> rfl

theorem read77 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 44) (hh : h (ix2 r l) = w (ix2 r 44)) :
    k1_pay77 w x v a h (ix2 r l) = upTo (part x w r (v (ix2 r l))) 50 := by
  pointwise [k1_pay77]
  rw [ha, hh]
  rfl

theorem read78 (w : IVec S16x128 32) (r : Fin 16) (l : Fin 512) :
    k1_pay78 w (ix2 r l) = w (ix2 r 50) := by
  pointwise [k1_pay78] <;> rfl

theorem read79 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 50) (hh : h (ix2 r l) = w (ix2 r 50)) :
    k1_pay79 w x v a h (ix2 r l) = upTo (part x w r (v (ix2 r l))) 56 := by
  pointwise [k1_pay79]
  rw [ha, hh]
  rfl

theorem read80 (w : IVec S16x128 32) (r : Fin 16) (l : Fin 512) :
    k1_pay80 w (ix2 r l) = w (ix2 r 56) := by
  pointwise [k1_pay80] <;> rfl

theorem read81 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 56) (hh : h (ix2 r l) = w (ix2 r 56)) :
    k1_pay81 w x v a h (ix2 r l) = upTo (part x w r (v (ix2 r l))) 62 := by
  pointwise [k1_pay81]
  rw [ha, hh]
  rfl

theorem read82 (w : IVec S16x128 32) (r : Fin 16) (l : Fin 512) :
    k1_pay82 w (ix2 r l) = w (ix2 r 62) := by
  pointwise [k1_pay82] <;> rfl

theorem read83 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 62) (hh : h (ix2 r l) = w (ix2 r 62)) :
    k1_pay83 w x v a h (ix2 r l) = upTo (part x w r (v (ix2 r l))) 68 := by
  pointwise [k1_pay83]
  rw [ha, hh]
  rfl

theorem read84 (w : IVec S16x128 32) (r : Fin 16) (l : Fin 512) :
    k1_pay84 w (ix2 r l) = w (ix2 r 68) := by
  pointwise [k1_pay84] <;> rfl

theorem read85 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 68) (hh : h (ix2 r l) = w (ix2 r 68)) :
    k1_pay85 w x v a h (ix2 r l) = upTo (part x w r (v (ix2 r l))) 74 := by
  pointwise [k1_pay85]
  rw [ha, hh]
  rfl

theorem read86 (w : IVec S16x128 32) (r : Fin 16) (l : Fin 512) :
    k1_pay86 w (ix2 r l) = w (ix2 r 74) := by
  pointwise [k1_pay86] <;> rfl

theorem read87 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 74) (hh : h (ix2 r l) = w (ix2 r 74)) :
    k1_pay87 w x v a h (ix2 r l) = upTo (part x w r (v (ix2 r l))) 80 := by
  pointwise [k1_pay87]
  rw [ha, hh]
  rfl

theorem read88 (w : IVec S16x128 32) (r : Fin 16) (l : Fin 512) :
    k1_pay88 w (ix2 r l) = w (ix2 r 80) := by
  pointwise [k1_pay88] <;> rfl

theorem read89 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 80) (hh : h (ix2 r l) = w (ix2 r 80)) :
    k1_pay89 w x v a h (ix2 r l) = upTo (part x w r (v (ix2 r l))) 86 := by
  pointwise [k1_pay89]
  rw [ha, hh]
  rfl

theorem read90 (w : IVec S16x128 32) (r : Fin 16) (l : Fin 512) :
    k1_pay90 w (ix2 r l) = w (ix2 r 86) := by
  pointwise [k1_pay90] <;> rfl

theorem read91 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 86) (hh : h (ix2 r l) = w (ix2 r 86)) :
    k1_pay91 w x v a h (ix2 r l) = upTo (part x w r (v (ix2 r l))) 92 := by
  pointwise [k1_pay91]
  rw [ha, hh]
  rfl

theorem read92 (w : IVec S16x128 32) (r : Fin 16) (l : Fin 512) :
    k1_pay92 w (ix2 r l) = w (ix2 r 92) := by
  pointwise [k1_pay92] <;> rfl

theorem read93 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 92) (hh : h (ix2 r l) = w (ix2 r 92)) :
    k1_pay93 w x v a h (ix2 r l) = upTo (part x w r (v (ix2 r l))) 98 := by
  pointwise [k1_pay93]
  rw [ha, hh]
  rfl

theorem read94 (w : IVec S16x128 32) (r : Fin 16) (l : Fin 512) :
    k1_pay94 w (ix2 r l) = w (ix2 r 98) := by
  pointwise [k1_pay94] <;> rfl

theorem read95 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 98) (hh : h (ix2 r l) = w (ix2 r 98)) :
    k1_pay95 w x v a h (ix2 r l) = upTo (part x w r (v (ix2 r l))) 104 := by
  pointwise [k1_pay95]
  rw [ha, hh]
  rfl

theorem read96 (w : IVec S16x128 32) (r : Fin 16) (l : Fin 512) :
    k1_pay96 w (ix2 r l) = w (ix2 r 104) := by
  pointwise [k1_pay96] <;> rfl

theorem read97 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 104) (hh : h (ix2 r l) = w (ix2 r 104)) :
    k1_pay97 w x v a h (ix2 r l) = upTo (part x w r (v (ix2 r l))) 110 := by
  pointwise [k1_pay97]
  rw [ha, hh]
  rfl

theorem read98 (w : IVec S16x128 32) (r : Fin 16) (l : Fin 512) :
    k1_pay98 w (ix2 r l) = w (ix2 r 110) := by
  pointwise [k1_pay98] <;> rfl

theorem read99 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 110) (hh : h (ix2 r l) = w (ix2 r 110)) :
    k1_pay99 w x v a h (ix2 r l) = upTo (part x w r (v (ix2 r l))) 116 := by
  pointwise [k1_pay99]
  rw [ha, hh]
  rfl

theorem read100 (w : IVec S16x128 32) (r : Fin 16) (l : Fin 512) :
    k1_pay100 w (ix2 r l) = w (ix2 r 116) := by
  pointwise [k1_pay100] <;> rfl

theorem read101 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 116) (hh : h (ix2 r l) = w (ix2 r 116)) :
    k1_pay101 w x v a h (ix2 r l) = upTo (part x w r (v (ix2 r l))) 122 := by
  pointwise [k1_pay101]
  rw [ha, hh]
  rfl

theorem read102 (w : IVec S16x128 32) (r : Fin 16) (l : Fin 512) :
    k1_pay102 w (ix2 r l) = w (ix2 r 122) := by
  pointwise [k1_pay102] <;> rfl

theorem read103 (x : FVec Ideal S16x128 .f32) (w : IVec S16x128 32) (v : IVec S16x512 32) (r : Fin 16) (l : Fin 512)
    (a : FVec Ideal S16x512 .f32) (h : IVec S16x512 32)
    (ha : a (ix2 r l) = upTo (part x w r (v (ix2 r l))) 122) (hh : h (ix2 r l) = w (ix2 r 122)) :
    k1_pay103 w x v a h (ix2 r l) = upTo (part x w r (v (ix2 r l))) 128 := by
  pointwise [k1_pay103]
  rw [ha, hh]
  rfl

/-- The shares of the words past the vocabulary's list, on their lanes. -/
theorem read_oov (x : FVec Ideal S16x128 .f32) (w : IVec S16x128 32) (m z : FVec Ideal S16x1 .f32) (e : FVec Ideal S16x128 .f32)
    (r : Fin 16) (l : Fin 512) :
    oovAcc x w m z e (k1_pay59 x w m z e) k1_pay60 (ix2 r l)
      = ∑ t : Fin 128, Scalar.select (IntOp.cmpi .eq (w (ix2 r t)) (k1_pay60 (ix2 r l))) (k1_pay59 x w m z e (ix2 r t)) 0 := by
  rw [← upTo_part]
  exact read103 _ w _ r l _ _ (read101 _ w _ r l _ _ (read99 _ w _ r l _ _ (read97 _ w _ r l _ _ (read95 _ w _ r l _ _ (read93 _ w _ r l _ _ (read91 _ w _ r l _ _ (read89 _ w _ r l _ _ (read87 _ w _ r l _ _ (read85 _ w _ r l _ _ (read83 _ w _ r l _ _ (read81 _ w _ r l _ _ (read79 _ w _ r l _ _ (read77 _ w _ r l _ _ (read75 _ w _ r l _ _ (read73 _ w _ r l _ _ (read71 _ w _ r l _ _ (read69 _ w _ r l _ _ (read67 _ w _ r l _ _ (read65 _ w _ r l _ _ (read63 _ w _ r l _ _ (read61 x w m z e r l) (read62 w r l)) (read64 w r l)) (read66 w r l)) (read68 w r l)) (read70 w r l)) (read72 w r l)) (read74 w r l)) (read76 w r l)) (read78 w r l)) (read80 w r l)) (read82 w r l)) (read84 w r l)) (read86 w r l)) (read88 w r l)) (read90 w r l)) (read92 w r l)) (read94 w r l)) (read96 w r l)) (read98 w r l)) (read100 w r l)) (read102 w r l)

end Cert.KernelIdeal.Scores
-- ==== Proof.Value.KernelRow.lean ====
module

public import proofs.«01_k».proof.Proof.Value.Accum
public import proofs.«01_k».proof.Proof.Value.Row

/-! The second call's log scores of one row, in terms of the row's scores. -/

@[expose] public section

noncomputable section

namespace Cert.KernelIdeal.Scores
open Cert.KernelIdeal Cert.KernelIdeal.Gen Cert.Math
open Idealize.ShloMosaic Idealize.ShloMosaic.TcCoe

theorem ofBits_neg : Ideal.ofBits FTy.f32 4286578688#32 = ⊥ := by
  simp [Ideal.ofBits, Ideal.ieee]

theorem named_neg : (Named.named κ "neg" 3769465068#32 : Ideal .f32) = ⊥ :=
  IdealRules.named_const.ideal_named_scalar _ _ _ _ rfl

variable (gn : FVec Ideal S16x3000 .f32) (sm : FVec Ideal S16x128 .f32) (nk : IVec S16x128 32) (sl : FVec Ideal S16x128 .f32) (r : Fin 16)

/-- The copies' scores on the padded lanes. -/
def padRow (i : Fin 3072) : EReal := k1_pay53 sm nk la vl (acc sm nk) (hit nk) (ix2 r i)

theorem padRow_voc (i : Fin 3000) : padRow sm nk r ⟨i, by omega⟩ = copies (fun t => sm (ix2 r t)) (fun t => nk (ix2 r t)) (BitVec.ofNat 32 i) := by
  have hv : vl (ix2 r (⟨i, by omega⟩ : Fin 3072)) = BitVec.ofNat 32 i := by
    pointwise [vl, la, k1_pay9]
    rw [select_slt, toInt_ofNat _ (by omega)]
    exact if_pos (by have : (3000#32 : BitVec 32).toInt = 3000 := rfl
                     omega)
  rw [padRow]
  pointwise [k1_pay53, la]
  rw [select_slt, toInt_ofNat _ (by omega), if_pos (by have : (3000#32 : BitVec 32).toInt = 3000 := rfl
                                                       omega)]
  rw [read_acc, hv]
  rfl

theorem padRow_pad (i : Fin 3072) (hi : ¬ i.val < 3000) : padRow sm nk r i = ⊥ := by
  rw [padRow]
  pointwise [k1_pay53, la]
  rw [select_slt, toInt_ofNat _ (by omega), if_neg (by have : (3000#32 : BitVec 32).toInt = 3000 := rfl
                                                       omega)]
  exact named_neg

/-- The row's logarithm of the normaliser. -/
def logZ : EReal :=
  topK (fun i => gn (ix2 r i)) (fun t => sl (ix2 r t)) (padRow sm nk r)
    + Ideal.log (sumK (fun i => gn (ix2 r i)) (fun t => sl (ix2 r t)) (padRow sm nk r))

theorem mx_eq : mx gn sm nk sl (ix2 r 0) = topK (fun i => gn (ix2 r i)) (fun t => sl (ix2 r t)) (padRow sm nk r) := by
  rw [mx]
  pointwise [k1_pay54]
  rw [ofBits_neg]
  rfl

theorem logZ_eq : mx gn sm nk sl (ix2 r 0) + Ideal.log (zs gn sm nk sl (ix2 r 0) + ∑ x, ex gn sm nk sl (ix2 r x)) = logZ gn sm nk sl r := by
  have hz : zs gn sm nk sl (ix2 r 0) = ∑ x, Ideal.exp (gn (ix2 r x) - mx gn sm nk sl (ix2 r 0)) +
      ∑ x, Ideal.exp (padRow sm nk r x - mx gn sm nk sl (ix2 r 0)) := by
    rw [zs]
    pointwise [k1_pay55]
    rfl
  have he : ∀ t, ex gn sm nk sl (ix2 r t) = Ideal.exp (sl (ix2 r t) - mx gn sm nk sl (ix2 r 0)) := by
    intro t
    rw [ex]
    pointwise [k1_pay56]
    rfl
  rw [hz]
  simp only [he]
  rw [mx_eq]
  rfl

/-- The logarithm of the sum of two exponentials, from their logarithms. -/
def join (a b : EReal) : EReal := max a b + Ideal.log1p (Ideal.exp (min a b - max a b))

theorem read58 (a : FVec Ideal S16x3072 .f32) (m z : FVec Ideal S16x1 .f32) (e : FVec Ideal S16x128 .f32) (l : Fin 3000) :
    k1_pay58 gn a m z e (ix2 r l) = join (gn (ix2 r l) - (m (ix2 r 0) + Ideal.log (z (ix2 r 0) + ∑ x, e (ix2 r x))))
      (a (ix2 r ⟨l, by omega⟩) - (m (ix2 r 0) + Ideal.log (z (ix2 r 0) + ∑ x, e (ix2 r x)))) := by
  pointwise [k1_pay58, k1_pay57]
  rfl

theorem read105_voc (a : FVec Ideal S16x3000 .f32) (b : FVec Ideal S16x512 .f32) (l : Fin 3000) :
    k1_pay105 a b (k1_pay104 (F := Ideal)) (ix2 r ⟨l, by omega⟩) = a (ix2 r l) := by
  pointwise [k1_pay105, k1_pay104]

theorem read105_oov (a : FVec Ideal S16x3000 .f32) (b : FVec Ideal S16x512 .f32) (l : Fin 400) (x : EReal)
    (hx : b (ix2 r ⟨l, by omega⟩) = x) :
    k1_pay105 a b (k1_pay104 (F := Ideal)) (ix2 r ⟨3000 + l, by omega⟩) =
      if 0 < x then Ideal.log (max x (Ideal.ofBits FTy.f32 7136238#32)) else ⊥ := by
  subst hx
  rw [← named_neg]
  pointwise [k1_pay105, k1_pay104]

/-- The log score of a word of the vocabulary. -/
theorem logScores_voc (l : Fin 3000) : logScores gn sm nk sl (ix2 r ⟨l, by omega⟩) =
    join (gn (ix2 r l) - logZ gn sm nk sl r)
      (copies (fun t => sm (ix2 r t)) (fun t => nk (ix2 r t)) (BitVec.ofNat 32 l) - logZ gn sm nk sl r) := by
  have hc : k1_pay52 sm nk vl (acc sm nk) (hit nk) (ix2 r ⟨l, by omega⟩) = copies (fun t => sm (ix2 r t)) (fun t => nk (ix2 r t)) (BitVec.ofNat 32 l) := by
    have hv : vl (ix2 r (⟨l, by omega⟩ : Fin 3072)) = BitVec.ofNat 32 l := by
      pointwise [vl, la, k1_pay9]
      rw [select_slt, toInt_ofNat _ (by omega)]
      exact if_pos (by have : (3000#32 : BitVec 32).toInt = 3000 := rfl
                       omega)
    rw [read_acc, hv]
    rfl
  rw [logScores, read105_voc, read58, logZ_eq, hc]

/-- The copies past the vocabulary, each with its share. -/
def shares (t : Fin 128) : EReal :=
  Scalar.select (IntOp.cmpi .sge (nk (ix2 r t)) 3000#32) (Ideal.exp (sm (ix2 r t) - logZ gn sm nk sl r)) 0

/-- The log score of a word past the vocabulary. -/
theorem logScores_oov (l : Fin 400) : logScores gn sm nk sl (ix2 r ⟨3000 + l, by omega⟩) =
    if 0 < copies (shares gn sm nk sl r) (fun t => nk (ix2 r t)) (BitVec.ofNat 32 (3000 + l))
    then Ideal.log (max (copies (shares gn sm nk sl r) (fun t => nk (ix2 r t)) (BitVec.ofNat 32 (3000 + l))) (Ideal.ofBits FTy.f32 7136238#32))
    else ⊥ := by
  have hl : k1_pay60 (ix2 r (⟨l, by omega⟩ : Fin 512)) = BitVec.ofNat 32 (3000 + l) := by
    pointwise [k1_pay60]
    rw [show IntOp.addi (BitVec.ofNat 32 l) 3000#32 = BitVec.ofNat 32 (3000 + l) from by
      rw [Nat.add_comm]; exact (BitVec.ofNat_add (l : ℕ) 3000).symm, select_slt, toInt_ofNat _ (by omega)]
    exact if_pos (by have : (3400#32 : BitVec 32).toInt = 3400 := rfl
                     omega)
  have ho : oovAcc sm nk (mx gn sm nk sl) (zs gn sm nk sl) (ex gn sm nk sl) (k1_pay59 sm nk (mx gn sm nk sl) (zs gn sm nk sl) (ex gn sm nk sl)) k1_pay60
      (ix2 r (⟨l, by omega⟩ : Fin 512)) = copies (shares gn sm nk sl r) (fun t => nk (ix2 r t)) (BitVec.ofNat 32 (3000 + l)) := by
    rw [read_oov, hl]
    refine Finset.sum_congr rfl fun t _ => ?_
    refine congrArg (fun y => Scalar.select _ y 0) ?_
    pointwise [k1_pay59, k1_pay57]
    rw [logZ_eq]
    rfl
  rw [logScores]
  exact read105_oov r _ _ l _ ho

end Cert.KernelIdeal.Scores
-- ==== Proof.Value.RefRow.lean ====
module

public import proofs.«01_k».proof.Proof.Value.Args
public import proofs.«01_k».proof.Proof.Value.Scatter
public import proofs.«01_k».proof.Proof.Value.KernelRow

/-! The reference's result of one row, in terms of the row's scores. -/

@[expose] public section

noncomputable section

namespace Cert.ReferenceIdeal.Rows
open Cert.ReferenceIdeal Cert.ReferenceIdeal.Read Cert.Math
open Idealize.ShloMosaic Idealize.ShloMosaic.TcCoe
open Cert.KernelIdeal.Scores (ofBits_neg join)

variable (A : Args) (b : Fin 128)

/-- The vocabulary's scores of a row. -/
def gnR (l : Fin 3000) : EReal := A.v138 (ix3 b 0 l)
/-- The copies' scores of a row. -/
def smR (t : Fin 128) : EReal := A.v146 (ix3 b 0 t)
/-- The copies' words of a row. -/
def nkR (t : Fin 128) : BitVec 32 := A.x9 (ix2 b t)
/-- The joined scores of a row. -/
def catR (i : Fin 6128) : EReal := A.v148 (ix3 b 0 i)

theorem cat_voc (i : Fin 3000) : catR A b ⟨i, by omega⟩ = gnR A b i := by
  unfold catR gnR Args.v148 Args.v138
  pointwise [val_main_v148]

theorem cat_copy (i : Fin 3128) : catR A b ⟨3000 + i, by omega⟩ = ∑ t, smR A b t * A.x10 (ix3 b t i) := by
  have h : catR A b ⟨3000 + i, by omega⟩ = A.v147 (ix3 b 0 i) := by
    unfold catR Args.v148 Args.v147
    pointwise [val_main_v148]
  rw [h]
  unfold smR Args.v147 Args.v146
  pointwise [val_main_v147]

/-- The log softmax of the joined scores. -/
theorem ls_read (i : Fin 6128) : A.v149 (ix3 b 0 i) =
    catR A b i - max ⊥ (greatest (catR A b)) - Ideal.log (∑ x, Ideal.exp (catR A b x - max ⊥ (greatest (catR A b)))) := by
  rw [← ofBits_neg]
  unfold greatest catR Args.v149
  rw [← ofBits_neg]
  pointwise [val_main_v149, val_main_call4_v10, val_main_call4_v9, val_main_call4_v8, val_main_call4_v7, val_main_call4_v6, val_main_call4_v5, val_main_call4_v4, val_main_call4_v3, val_main_call4_v2, val_main_call4_v1, val_main_call4_v0, val_main_call4_cst, val_main_call4_cst_0, val_main_call4_cst_1]

theorem v195_read (l : Fin 3000) : A.v195 (ix3 b 0 l) =
    max (A.v149 (ix3 b 0 ⟨l, by omega⟩)) (A.v149 (ix3 b 0 ⟨3000 + l, by omega⟩)) +
      Ideal.log1p (Ideal.exp (-(max (A.v149 (ix3 b 0 ⟨l, by omega⟩) - A.v149 (ix3 b 0 ⟨3000 + l, by omega⟩))
        (-(A.v149 (ix3 b 0 ⟨l, by omega⟩) - A.v149 (ix3 b 0 ⟨3000 + l, by omega⟩)))))) := by
  unfold Args.v195 Args.v149
  pointwise [val_main_v195, val_main_v194, val_main_v193, val_main_v192, val_main_v191, val_main_v190, val_main_v189, val_main_v188, val_main_v187, val_main_v186, val_main_v150, val_main_v151]
  exact if_neg (not_not.2 rfl)

theorem v161_read (t : Fin 128) : A.v161 (ix2 b t) =
    Scalar.select (IntOp.cmpi .sge (nkR A b t) 3000#32) (Ideal.exp (A.v149 (ix3 b 0 ⟨6000 + t, by omega⟩))) 0 := by
  unfold nkR Args.v161 Args.v149
  pointwise [val_main_v161, val_main_v157, val_main_v156, val_main_v155, val_main_v154, val_main_v153, val_main_c_21, val_main_v152, val_main_call5_v1, val_main_call5_v0, val_main_cst_22]
  refine congrArg (Scalar.select _ _) ?_
  simp [constant, Ideal.ofBits, Ideal.ieee]

theorem v185_read (l : Fin 3400) : A.v185 (ix3 b 0 l) =
    if 0 < A.v179 (ix3 b 0 l) then Ideal.log (max (A.v179 (ix3 b 0 l)) (Ideal.ofBits FTy.f32 7136238#32)) else ⊥ := by
  rw [← ofBits_neg]
  unfold Args.v185 Args.v179
  pointwise [val_main_v185, val_main_v184, val_main_v183, val_main_v182, val_main_cst_30, val_main_v181, val_main_v180, val_main_cst_29, val_main_call6_v1, val_main_call6_v0, val_main_cst_31]
  rfl

end Cert.ReferenceIdeal.Rows
-- ==== Proof.Value.Rows.lean ====
module

public import proofs.«01_k».proof.Proof.Value.RefRow

/-! One row of the kernel's second call and the reference's result on it are equal, given that their scores are. -/

@[expose] public section

noncomputable section

namespace Cert.ReferenceIdeal.Rows
open Cert.ReferenceIdeal Cert.ReferenceIdeal.Read Cert.Math
open Idealize.ShloMosaic Idealize.ShloMosaic.TcCoe
open Cert.KernelIdeal.Scores (ofBits_neg join logZ padRow padRow_voc padRow_pad logScores logScores_voc logScores_oov shares)

variable (gn : FVec Ideal Cert.KernelIdeal.S16x3000 .f32) (sm : FVec Ideal Cert.KernelIdeal.S16x128 .f32) (nk : IVec Cert.KernelIdeal.S16x128 32)
  (sl : FVec Ideal Cert.KernelIdeal.S16x128 .f32) (r : Fin 16) (A : Args) (b : Fin 128)
  (hgn : ∀ l, gn (ix2 r l) = gnR A b l) (hsm : ∀ t, sm (ix2 r t) = smR A b t) (hnk : ∀ t, nk (ix2 r t) = nkR A b t)
  (hsl : ∀ t, sl (ix2 r t) = slots (smR A b) (nkR A b) t)
  (hh : ∀ t (n : Fin 3128), A.x10 (ix3 b t n) = if lane (nkR A b) t == BitVec.ofNat 32 n then 1 else 0)
  (hg : ∀ l, IsReal (gnR A b l)) (hs : ∀ t, smR A b t ≠ ⊤)
include hgn hsm hnk hsl hh hg hs

omit hgn hsm hnk hsl hg hs in
theorem cat_word (i : Fin 3000) : catR A b ⟨3000 + i, by omega⟩ = copies (smR A b) (nkR A b) (BitVec.ofNat 32 i) := by
  rw [cat_copy A b ⟨i, by omega⟩, ← hot_word (smR A b) (nkR A b) (fun t n => if h : n < 3128 then A.x10 (ix3 b t ⟨n, h⟩) else 0)
    (fun t n hn => by rw [dif_pos hn, hh]) i i.isLt]
  refine Finset.sum_congr rfl fun t _ => ?_
  rw [dif_pos (by omega : i.val < 3128)]

omit hgn hsm hnk hsl hg hs in
theorem cat_slot (t : Fin 128) : catR A b ⟨6000 + t, by omega⟩ = slots (smR A b) (nkR A b) t := by
  have e := cat_copy A b ⟨3000 + t, by omega⟩
  rw [show (⟨3000 + (⟨3000 + t.val, by omega⟩ : Fin 3128).val, by simp only; omega⟩ : Fin 6128) = ⟨6000 + t, by omega⟩ from
    Fin.ext (by simp only; omega)] at e
  rw [e, ← hot_slot (smR A b) (nkR A b) (fun t n => if h : n < 3128 then A.x10 (ix3 b t ⟨n, h⟩) else 0) (fun t n hn => by rw [dif_pos hn, hh]) t]
  refine Finset.sum_congr rfl fun j _ => ?_
  rw [dif_pos (by omega : 3000 + t.val < 3128)]

/-- The log softmax, by the kernel's normaliser; which is real. -/
theorem ls_eq : (∀ i, A.v149 (ix3 b 0 i) = catR A b i - logZ gn sm nk sl r) ∧ IsReal (logZ gn sm nk sl r) := by
  have e1 : (fun i => gn (ix2 r i)) = gnR A b := funext hgn
  have e2 : (fun t => sl (ix2 r t)) = slots (smR A b) (nkR A b) := funext hsl
  have e3 : (fun t => sm (ix2 r t)) = smR A b := funext hsm
  have e4 : (fun t => nk (ix2 r t)) = nkR A b := funext hnk
  have p1 : ∀ i : Fin 3000, padRow sm nk r ⟨i, by omega⟩ = copies (smR A b) (nkR A b) (BitVec.ofNat 32 i) := fun i => by
    rw [padRow_voc, e3, e4]
  have hc : ∀ i : Fin 3000, copies (smR A b) (nkR A b) (BitVec.ofNat 32 i) ≠ ⊤ := fun i => copies_ne_top _ _ hs _
  have hz := norm_isReal (gnR A b) (fun i => copies (smR A b) (nkR A b) (BitVec.ofNat 32 i)) (slots (smR A b) (nkR A b)) (catR A b) (padRow sm nk r)
    (cat_voc A b) (cat_word A b hh) (cat_slot A b hh) p1 (padRow_pad sm nk r) hg hc (slots_ne_top _ _ hs)
  have hx := norm_eq (gnR A b) (fun i => copies (smR A b) (nkR A b) (BitVec.ofNat 32 i)) (slots (smR A b) (nkR A b)) (catR A b) (padRow sm nk r)
    (cat_voc A b) (cat_word A b hh) (cat_slot A b hh) p1 (padRow_pad sm nk r) hg hc (slots_ne_top _ _ hs)
  unfold logZ
  rw [e1, e2]
  exact ⟨fun i => by rw [ls_read, hx], hz⟩

theorem row_voc (l : Fin 3000) : logScores gn sm nk sl (ix2 r ⟨l, by omega⟩) = A.v197 (ix3 b 0 ⟨l, by omega⟩) := by
  obtain ⟨hl, hz⟩ := ls_eq gn sm nk sl r A b hgn hsm hnk hsl hh hg hs
  have e3 : (fun t => sm (ix2 r t)) = smR A b := funext hsm
  have e4 : (fun t => nk (ix2 r t)) = nkR A b := funext hnk
  rw [logScores_voc, e3, e4, hgn]
  have hv : A.v197 (ix3 b 0 ⟨l, by omega⟩) = A.v195 (ix3 b 0 l) := by
    unfold Args.v197 val_main_v197
    exact set_voc _ _ rfl _ b l
  rw [hv, v195_read, hl, hl, cat_voc, cat_word A b hh, neg_abs_sub ((hg l).sub hz)
    (sub_ne_top (copies_ne_top _ _ hs _) hz)]
  rfl

theorem row_oov (l : Fin 400) : logScores gn sm nk sl (ix2 r ⟨3000 + l, by omega⟩) = A.v197 (ix3 b 0 ⟨3000 + l, by omega⟩) := by
  obtain ⟨hl, hz⟩ := ls_eq gn sm nk sl r A b hgn hsm hnk hsl hh hg hs
  have e4 : (fun t => nk (ix2 r t)) = nkR A b := funext hnk
  have hv : A.v197 (ix3 b 0 ⟨3000 + l, by omega⟩) = A.v185 (ix3 b 0 ⟨3000 + l, by omega⟩) := by
    unfold Args.v197 val_main_v197
    exact set_oov _ _ rfl _ b l
  have hw : A.v179 (ix3 b 0 ⟨3000 + l, by omega⟩) = copies (shares gn sm nk sl r) (nkR A b) (BitVec.ofNat 32 (3000 + l)) := by
    have ha : A.v179 (ix3 b 0 ⟨3000 + l, by omega⟩) = 0 + ∑ t : Fin 128,
        if (val_main_v171 (F := Ideal) A.x9 (ix2 b t)).toInt = ((3000 + l.val : ℕ) : ℤ) then A.v161 (ix2 b t) else 0 := by
      unfold Args.v179 val_main_v179
      rw [add_apply _ _ _ (val_main_v171 (F := Ideal) A.x9) (words0 A.x9) (words1 A.x9) (words2 A.x9)]
      refine congrArg (· + _) ?_
      pointwise [val_main_v158, val_main_cst_23]
    rw [ha, zero_add, copies]
    refine Finset.sum_congr rfl fun t _ => ?_
    have hv : (3000#32 : BitVec 32).toInt = 3000 := rfl
    have ho := toInt_ofNat (3000 + l) (by omega)
    rw [select_eq, v161_read, select_sge, hl, cat_slot A b hh, shares, select_sge, hnk, hsm, slots, select_sge, hv]
    by_cases h : 3000 ≤ (nkR A b t).toInt
    · rw [wrapped A.x9 b t h, if_pos h, if_pos h, if_pos h]
      refine if_congr ⟨fun e => BitVec.eq_of_toInt_eq (by rw [ho]; exact e), fun e => ?_⟩ rfl rfl
      have := congrArg BitVec.toInt e
      rw [ho] at this
      exact this
    · rw [if_neg h, if_neg h, ite_self, ite_self]
  rw [logScores_oov, e4, hv, v185_read, hw]

/-- The row. -/
theorem row_eq (l : Fin 3400) : logScores gn sm nk sl (ix2 r l) = A.v197 (ix3 b 0 l) := by
  by_cases h : l.val < 3000
  · exact row_voc gn sm nk sl r A b hgn hsm hnk hsl hh hg hs ⟨l, h⟩
  · have e := row_oov gn sm nk sl r A b hgn hsm hnk hsl hh hg hs ⟨l - 3000, by omega⟩
    rwa [show (⟨3000 + (l.val - 3000), by omega⟩ : Fin 3400) = l from Fin.ext (by simp only; omega)] at e

end Cert.ReferenceIdeal.Rows
-- ==== Proof.Value.Cell.lean ====
module

public import proofs.«01_k».proof.Proof.Value.Rows
public import proofs.«01_k».proof.Proof.KernelIdeal.Scores

/-! The recurrent cell and the scores, of the kernel's second call and of the reference. -/

@[expose] public section

noncomputable section

namespace Cert.Math
open Idealize.ShloMosaic

/-- A sigmoid, as the reference computes it. -/
def gate (x : EReal) : EReal := Ideal.div 1 (1 + Ideal.exp (-x))

/-- The recurrent cell's new state in lane `j`, from the products of the input and of the old state. -/
def cell (gi gh : Fin 1536 → EReal) (h : EReal) (j : Fin 512) : EReal :=
  (1 - gate (gi ⟨512 + j, by omega⟩ + gh ⟨512 + j, by omega⟩)) *
      Ideal.tanh (gi ⟨1024 + j, by omega⟩ + gate (gi ⟨j, by omega⟩ + gh ⟨j, by omega⟩) * gh ⟨1024 + j, by omega⟩) +
    gate (gi ⟨512 + j, by omega⟩ + gh ⟨512 + j, by omega⟩) * h

theorem cell_isReal (gi gh : Fin 1536 → EReal) {h : EReal} (hh : IsReal h) (j : Fin 512) : IsReal (cell gi gh h j) :=
  ((isReal_one.sub (logistic_isReal _)).mul (tanh_isReal _)).add ((logistic_isReal _).mul hh)

end Cert.Math

namespace Cert.KernelIdeal.Scores
open Cert.KernelIdeal Cert.KernelIdeal.Gen Cert.Math
open Idealize.ShloMosaic Idealize.ShloMosaic.TcCoe

section
variable (x0 : Vec Ideal S16x1x2080 .f32) (x1 : Vec Ideal S16x512 .f32) (x2 : Vec Ideal S16x128x512 .f32) (x3 x4 : Vec Ideal S16x1x128 .i32)
  (x5 : Vec Ideal S2080x1536 .bf16) (x6 : Vec Ideal S512x1536 .bf16) (x7 x8 : Vec Ideal S1x1536 .f32) (x9 : Vec Ideal S512x512 .bf16)
  (x10 : Vec Ideal S1x512 .f32) (x11 : Vec Ideal S512x3000 .bf16) (x12 : Vec Ideal S1x3000 .f32) (r : Fin 16)

theorem state_read (j : Fin 512) : state (F := Ideal) x0 x1 x5 x6 x7 x8 (ix2 r j) =
    cell (fun n => ∑ k, x0 (ix3 r 0 k) * x5 (ix2 k n) + x7 (ix2 0 n)) (fun n => ∑ k, x1 (ix2 r k) * x6 (ix2 k n) + x8 (ix2 0 n))
      (x1 (ix2 r j)) j := by
  pointwise [state, k1_pay2]
  rfl

theorem gen_read (l : Fin 3000) : gen (F := Ideal) x0 x1 x5 x6 x7 x8 x11 x12 (ix2 r l) =
    ∑ j, state (F := Ideal) x0 x1 x5 x6 x7 x8 (ix2 r j) * x11 (ix2 j l) + x12 (ix2 0 l) := by
  unfold state
  generalize hs : k1_pay2 (F := Ideal) _ _ _ _ _ _ = s
  unfold gen k1_pay3
  rw [hs]
  pointwise [k1_pay5, k1_pay4]

theorem copy_read (st : FVec Ideal S16x512 .f32) (t : Fin 128) : copy (F := Ideal) st x2 x3 x9 x10 (ix2 r t) =
    Scalar.select (IntOp.cmpi .eq (x3 (ix3 r 0 t)) 0#32) ⊥
      (∑ j, Ideal.tanh (∑ k, x2 (ix3 r t k) * x9 (ix2 k j) + x10 (ix2 0 j)) * st (ix2 r j)) := by
  rw [← named_neg]
  pointwise [copy, k1_pay6]

theorem words_read (t : Fin 128) : words x4 (ix2 r t) = x4 (ix3 r 0 t) := by
  pointwise [words, k1_pay7]

theorem slot_read (st : FVec Ideal S16x512 .f32) (t : Fin 128) : slot (F := Ideal) st x2 x3 x4 x9 x10 (ix2 r t) =
    slots (fun t => copy (F := Ideal) st x2 x3 x9 x10 (ix2 r t)) (fun t => words x4 (ix2 r t)) t := by
  unfold slots copy words
  generalize hc : k1_pay6 (F := Ideal) _ _ _ _ _ = c
  generalize hw : k1_pay7 _ = w
  unfold slot k1_pay8
  rw [hc, hw]
  pointwise []
end

end Cert.KernelIdeal.Scores

namespace Cert.ReferenceIdeal.Rows
open Cert.ReferenceIdeal Cert.ReferenceIdeal.Read Cert.Math
open Idealize.ShloMosaic Idealize.ShloMosaic.TcCoe
open Cert.KernelIdeal.Scores (ofBits_neg)

variable (A : Args) (b : Fin 128)

theorem v132_read (j : Fin 512) : A.v132 (ix2 b j) =
    cell (fun n => ∑ k, A.v93 (ix3 b 0 k) * A.x19 (ix2 n k) + A.x21 (ix1 n)) (fun n => ∑ k, A.x1 (ix3 0 b k) * A.x20 (ix2 n k) + A.x22 (ix1 n))
      (A.x1 (ix3 0 b j)) j := by
  unfold Args.v132
  pointwise [val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_cst_15, val_main_cst_16, val_main_cst_17, val_main_cst_18, val_main_cst_19, val_main_v104, val_main_v103, val_main_v102, val_main_v101, val_main_v100, val_main_v0, val_main_v99, val_main_v98, val_main_v97, val_main_v96, val_main_v95, val_main_v94]
  rfl

theorem gnR_read (l : Fin 3000) : gnR A b l = ∑ j, A.v132 (ix2 b j) * A.x17 (ix2 l j) + A.x18 (ix1 l) := by
  unfold gnR Args.v138 Args.v132
  pointwise [val_main_v138, val_main_v137, val_main_v136, val_main_v135, val_main_v134, val_main_v133]

theorem smR_read (t : Fin 128) : smR A b t = Scalar.select (IntOp.cmpi .eq (A.x7 (ix2 b t)) 0#32) ⊥
    (∑ j, A.v132 (ix2 b j) * Ideal.tanh (∑ k, A.x3 (ix3 b t k) * A.x15 (ix2 j k) + A.x16 (ix1 j))) := by
  rw [← ofBits_neg]
  unfold smR Args.v146 Args.v132
  pointwise [val_main_v146, val_main_v145, val_main_v144, val_main_v143, val_main_v142, val_main_v141, val_main_v140, val_main_v139, val_main_v133, val_main_v13, val_main_v12, val_main_v11, val_main_c_2, val_main_call3_v1, val_main_call3_v0, val_main_cst_20]
  rfl

variable (h1 : ∀ j, IsReal (A.x1 (ix3 0 b j)))
include h1

theorem v132_isReal (j : Fin 512) : IsReal (A.v132 (ix2 b j)) := by
  rw [v132_read]
  exact cell_isReal _ _ (h1 j) j

theorem gnR_isReal (h17 : ∀ l j, IsReal (A.x17 (ix2 l j))) (h18 : ∀ l, IsReal (A.x18 (ix1 l))) (l : Fin 3000) : IsReal (gnR A b l) := by
  rw [gnR_read]
  exact (isReal_sum _ _ fun j => (v132_isReal A b h1 j).mul (h17 l j)).add (h18 l)

theorem smR_ne_top (t : Fin 128) : smR A b t ≠ ⊤ := by
  rw [smR_read, select_eq]
  split
  · exact bot_ne_top
  · exact (isReal_sum _ _ fun j => (v132_isReal A b h1 j).mul (tanh_isReal _)).2

end Cert.ReferenceIdeal.Rows
-- ==== Proof.Value.Host1.lean ====
module

public import proofs.«01_k».proof.Proof.Value.Cell
public import proofs.«01_k».proof.Proof.KernelIdeal.Run
public import Idealize.ShloMosaic.Lib.Pipeline.ValueKit

/-! The second call's input blocks, read from the arguments of the program. -/

@[expose] public section

noncomputable section

namespace Cert.KernelIdeal.Run
open Cert.KernelIdeal Cert.KernelIdeal.Gen
open Cert.ReferenceIdeal (Args)
open Idealize.ShloMosaic Idealize.ShloMosaic.TcCoe

variable (m : (ℓ : Loc nD τ sig) → Buf (Elt Ideal) ℓ) (ok : Ok m) (c : Dev nD)

/-- The arguments' contents on core `c`. -/
def args : Args where
  x0 := m (c, Proc.devRef .tc main_arg0)
  x1 := m (c, Proc.devRef .tc main_arg1)
  x2 := m (c, Proc.devRef .tc main_arg2)
  x3 := m (c, Proc.devRef .tc main_arg3)
  x4 := m (c, Proc.devRef .tc main_arg4)
  x5 := m (c, Proc.devRef .tc main_arg5)
  x6 := m (c, Proc.devRef .tc main_arg6)
  x7 := m (c, Proc.devRef .tc main_arg7)
  x8 := m (c, Proc.devRef .tc main_arg8)
  x9 := m (c, Proc.devRef .tc main_arg9)
  x10 := m (c, Proc.devRef .tc main_arg10)
  x11 := m (c, Proc.devRef .tc main_arg11)
  x12 := m (c, Proc.devRef .tc main_arg12)
  x13 := m (c, Proc.devRef .tc main_arg13)
  x14 := m (c, Proc.devRef .tc main_arg14)
  x15 := m (c, Proc.devRef .tc main_arg15)
  x16 := m (c, Proc.devRef .tc main_arg16)
  x17 := m (c, Proc.devRef .tc main_arg17)
  x18 := m (c, Proc.devRef .tc main_arg18)
  x19 := m (c, Proc.devRef .tc main_arg19)
  x20 := m (c, Proc.devRef .tc main_arg20)
  x21 := m (c, Proc.devRef .tc main_arg21)
  x22 := m (c, Proc.devRef .tc main_arg22)

/-- A buffer neither the first host line nor the first call writes. -/
theorem W2_of (r : Ref sig .tc) (h : r ∉ hostOps0_W) (h7 : r ≠ main_v7) : W2 m ok c r = m (c, Proc.devRef .tc r) := by
  rw [out0_of m ok c r h7, V1_of m c r h]

/-- A buffer the second host line does not write. -/
theorem W3_of (r : Ref sig .tc) (h : r ∉ hostOps1_W) : W3 m ok c r = W2 m ok c r :=
  StableHlo.after_of_writes_sub hostOps1 _ hostOps1_writes h

theorem N1 : grid1.N = 8 := by decide +kernel

theorem bound1 (t : Fin grid1.N) (r : Fin 16) : t.val * 16 + r.val < 128 := by
  have h : t.val < 8 := lt_of_lt_of_eq t.isLt N1
  generalize t.val = n at h ⊢
  omega

/-- Row `r` of the batch's rows at grid point `t`. -/
def row1 (t : Fin cfg1.N) (r : Fin 16) : Fin 128 := ⟨t.val * 16 + r, bound1 t r⟩

/-- Which block each window holds. -/
theorem idx1 : ∀ t : Fin cfg1.N, (win1_0.index t = ![t.val, 0, 0] ∧ win1_1.index t = ![t.val, 0] ∧ win1_2.index t = ![t.val, 0, 0] ∧
    win1_3.index t = ![t.val, 0, 0] ∧ win1_4.index t = ![t.val, 0, 0]) ∧ (win1_5.index t = ![0, 0] ∧ win1_6.index t = ![0, 0] ∧
    win1_7.index t = ![0, 0] ∧ win1_8.index t = ![0, 0] ∧ win1_9.index t = ![0, 0] ∧ win1_10.index t = ![0, 0] ∧ win1_11.index t = ![0, 0] ∧
    win1_12.index t = ![0, 0]) ∧ win1_13.index t = ![t.val, 0, 0] :=
  (by decide +kernel : ∀ t : Fin grid1.N, _)

section
variable (t : Fin cfg1.N) (r : Fin 16)

theorem in1_0 (k : Fin 2080) : (Scores.blk (W3 m ok) c 0 t : Vec Ideal S16x1x2080 .f32) (ix3 r 0 k) = (d0 m ok c).arrAt 13 cfg0.N (ix3 (row1 t r) 0 k) := by
  have e : (Scores.blk (W3 m ok) c 0 t : Vec Ideal S16x1x2080 .f32) (ix3 r 0 k) = W3 m ok c main_v7 (ix3 (row1 t r) 0 k) := by
    unfold row1
    blk_ext [Scores.blk, (idx1 t).1.1]
  rw [e, W3_of m ok c main_v7 (by decide), out0_self]

theorem in1_1 (k : Fin 512) : (Scores.blk (W3 m ok) c 1 t : Vec Ideal S16x512 .f32) (ix2 r k) = (args m c).x1 (ix3 0 (row1 t r) k) := by
  have e : (Scores.blk (W3 m ok) c 1 t : Vec Ideal S16x512 .f32) (ix2 r k) = W3 m ok c main_v0 (ix2 (row1 t r) k) := by
    unfold row1
    blk_ext [Scores.blk, (idx1 t).1.2.1]
  rw [e, W3_of m ok c main_v0 (by decide), out0_of m ok c main_v0 (by decide)]
  unfold V1
  entry_read
  pointwise
  rfl

theorem in1_2 (j : Fin 128) (k : Fin 512) : (Scores.blk (W3 m ok) c 2 t : Vec Ideal S16x128x512 .f32) (ix3 r j k) = (args m c).x3 (ix3 (row1 t r) j k) := by
  have e : (Scores.blk (W3 m ok) c 2 t : Vec Ideal S16x128x512 .f32) (ix3 r j k) = W3 m ok c main_arg3 (ix3 (row1 t r) j k) := by
    unfold row1
    blk_ext [Scores.blk, (idx1 t).1.2.2.1]
  rw [e, W3_of m ok c main_arg3 (by decide), W2_of m ok c main_arg3 (by decide) (by decide)]
  rfl

theorem in1_3 (j : Fin 128) : (Scores.blk (W3 m ok) c 3 t : Vec Ideal S16x1x128 .i32) (ix3 r 0 j) = (args m c).x7 (ix2 (row1 t r) j) := by
  have e : (Scores.blk (W3 m ok) c 3 t : Vec Ideal S16x1x128 .i32) (ix3 r 0 j) = W3 m ok c main_v8 (ix3 (row1 t r) 0 j) := by
    unfold row1
    blk_ext [Scores.blk, (idx1 t).1.2.2.2.1]
  rw [e, ← show m (c, Proc.devRef .tc main_arg7) (ix2 (row1 t r) j) = (args m c).x7 (ix2 (row1 t r) j) from rfl,
    ← W2_of m ok c main_arg7 (by decide) (by decide)]
  unfold W3
  entry_read
  pointwise

theorem in1_4 (j : Fin 128) : (Scores.blk (W3 m ok) c 4 t : Vec Ideal S16x1x128 .i32) (ix3 r 0 j) = (args m c).x9 (ix2 (row1 t r) j) := by
  have e : (Scores.blk (W3 m ok) c 4 t : Vec Ideal S16x1x128 .i32) (ix3 r 0 j) = W3 m ok c main_v9 (ix3 (row1 t r) 0 j) := by
    unfold row1
    blk_ext [Scores.blk, (idx1 t).1.2.2.2.2]
  rw [e, ← show m (c, Proc.devRef .tc main_arg9) (ix2 (row1 t r) j) = (args m c).x9 (ix2 (row1 t r) j) from rfl,
    ← W2_of m ok c main_arg9 (by decide) (by decide)]
  unfold W3
  entry_read
  pointwise

theorem in1_5 (k : Fin 2080) (n : Fin 1536) : (Scores.blk (W3 m ok) c 5 t : Vec Ideal S2080x1536 .bf16) (ix2 k n) = (args m c).x19 (ix2 n k) := by
  have e : (Scores.blk (W3 m ok) c 5 t : Vec Ideal S2080x1536 .bf16) (ix2 k n) = W3 m ok c main_v11 (ix2 k n) := by
    blk_ext [Scores.blk, (idx1 t).2.1.1]
  rw [e, ← show m (c, Proc.devRef .tc main_arg19) (ix2 n k) = (args m c).x19 (ix2 n k) from rfl,
    ← W2_of m ok c main_arg19 (by decide) (by decide)]
  unfold W3
  entry_read
  pointwise

theorem in1_6 (k : Fin 512) (n : Fin 1536) : (Scores.blk (W3 m ok) c 6 t : Vec Ideal S512x1536 .bf16) (ix2 k n) = (args m c).x20 (ix2 n k) := by
  have e : (Scores.blk (W3 m ok) c 6 t : Vec Ideal S512x1536 .bf16) (ix2 k n) = W3 m ok c main_v13 (ix2 k n) := by
    blk_ext [Scores.blk, (idx1 t).2.1.2.1]
  rw [e, ← show m (c, Proc.devRef .tc main_arg20) (ix2 n k) = (args m c).x20 (ix2 n k) from rfl,
    ← W2_of m ok c main_arg20 (by decide) (by decide)]
  unfold W3
  entry_read
  pointwise

theorem in1_7 (n : Fin 1536) : (Scores.blk (W3 m ok) c 7 t : Vec Ideal S1x1536 .f32) (ix2 0 n) = (args m c).x21 (ix1 n) := by
  have e : (Scores.blk (W3 m ok) c 7 t : Vec Ideal S1x1536 .f32) (ix2 0 n) = W3 m ok c main_v14 (ix2 0 n) := by
    blk_ext [Scores.blk, (idx1 t).2.1.2.2.1]
  rw [e, ← show m (c, Proc.devRef .tc main_arg21) (ix1 n) = (args m c).x21 (ix1 n) from rfl,
    ← W2_of m ok c main_arg21 (by decide) (by decide)]
  unfold W3
  entry_read
  pointwise

theorem in1_8 (n : Fin 1536) : (Scores.blk (W3 m ok) c 8 t : Vec Ideal S1x1536 .f32) (ix2 0 n) = (args m c).x22 (ix1 n) := by
  have e : (Scores.blk (W3 m ok) c 8 t : Vec Ideal S1x1536 .f32) (ix2 0 n) = W3 m ok c main_v15 (ix2 0 n) := by
    blk_ext [Scores.blk, (idx1 t).2.1.2.2.2.1]
  rw [e, ← show m (c, Proc.devRef .tc main_arg22) (ix1 n) = (args m c).x22 (ix1 n) from rfl,
    ← W2_of m ok c main_arg22 (by decide) (by decide)]
  unfold W3
  entry_read
  pointwise

theorem in1_9 (k j : Fin 512) : (Scores.blk (W3 m ok) c 9 t : Vec Ideal S512x512 .bf16) (ix2 k j) = (args m c).x15 (ix2 j k) := by
  have e : (Scores.blk (W3 m ok) c 9 t : Vec Ideal S512x512 .bf16) (ix2 k j) = W3 m ok c main_v17 (ix2 k j) := by
    blk_ext [Scores.blk, (idx1 t).2.1.2.2.2.2.1]
  rw [e, ← show m (c, Proc.devRef .tc main_arg15) (ix2 j k) = (args m c).x15 (ix2 j k) from rfl,
    ← W2_of m ok c main_arg15 (by decide) (by decide)]
  unfold W3
  entry_read
  pointwise

theorem in1_10 (j : Fin 512) : (Scores.blk (W3 m ok) c 10 t : Vec Ideal S1x512 .f32) (ix2 0 j) = (args m c).x16 (ix1 j) := by
  have e : (Scores.blk (W3 m ok) c 10 t : Vec Ideal S1x512 .f32) (ix2 0 j) = W3 m ok c main_v18 (ix2 0 j) := by
    blk_ext [Scores.blk, (idx1 t).2.1.2.2.2.2.2.1]
  rw [e, ← show m (c, Proc.devRef .tc main_arg16) (ix1 j) = (args m c).x16 (ix1 j) from rfl,
    ← W2_of m ok c main_arg16 (by decide) (by decide)]
  unfold W3
  entry_read
  pointwise

theorem in1_11 (j : Fin 512) (l : Fin 3000) : (Scores.blk (W3 m ok) c 11 t : Vec Ideal S512x3000 .bf16) (ix2 j l) = (args m c).x17 (ix2 l j) := by
  have e : (Scores.blk (W3 m ok) c 11 t : Vec Ideal S512x3000 .bf16) (ix2 j l) = W3 m ok c main_v20 (ix2 j l) := by
    blk_ext [Scores.blk, (idx1 t).2.1.2.2.2.2.2.2.1]
  rw [e, ← show m (c, Proc.devRef .tc main_arg17) (ix2 l j) = (args m c).x17 (ix2 l j) from rfl,
    ← W2_of m ok c main_arg17 (by decide) (by decide)]
  unfold W3
  entry_read
  pointwise

theorem in1_12 (l : Fin 3000) : (Scores.blk (W3 m ok) c 12 t : Vec Ideal S1x3000 .f32) (ix2 0 l) = (args m c).x18 (ix1 l) := by
  have e : (Scores.blk (W3 m ok) c 12 t : Vec Ideal S1x3000 .f32) (ix2 0 l) = W3 m ok c main_v21 (ix2 0 l) := by
    blk_ext [Scores.blk, (idx1 t).2.1.2.2.2.2.2.2.2]
  rw [e, ← show m (c, Proc.devRef .tc main_arg18) (ix1 l) = (args m c).x18 (ix1 l) from rfl,
    ← W2_of m ok c main_arg18 (by decide) (by decide)]
  unfold W3
  entry_read
  pointwise
end

end Cert.KernelIdeal.Run
-- ==== Proof.Value.Out1.lean ====
module

public import proofs.«01_k».proof.Proof.Value.Host1

/-! The second call's result array is the reference's result, given that the first call's array is the reference's cell input. -/

@[expose] public section

noncomputable section

namespace Cert.KernelIdeal.Run
open Cert.KernelIdeal Cert.KernelIdeal.Gen Cert.KernelIdeal.Scores Cert.Math
open Cert.ReferenceIdeal (Args)
open Cert.ReferenceIdeal.Rows (gnR smR nkR gnR_read smR_read v132_read row_eq gnR_isReal smR_ne_top)
open Idealize.ShloMosaic Idealize.ShloMosaic.TcCoe

variable (m : (ℓ : Loc nD τ sig) → Buf (Elt Ideal) ℓ) (ok : Ok m) (c : Dev nD)
  (hx : ∀ (b : Fin 128) (k : Fin 2080), (d0 m ok c).arrAt 13 cfg0.N (ix3 b 0 k) = (args m c).v93 (ix3 b 0 k))
  (hh : ∀ b t (n : Fin 3128), (args m c).x10 (ix3 b t n) = if lane (nkR (args m c) b) t == BitVec.ofNat 32 n then 1 else 0)
  (h1 : ∀ b j, IsReal ((args m c).x1 (ix3 0 b j))) (h17 : ∀ l j, IsReal ((args m c).x17 (ix2 l j))) (h18 : ∀ l, IsReal ((args m c).x18 (ix1 l)))
include hx

section
variable (t : Fin cfg1.N) (r : Fin 16)

theorem state_eq (j : Fin 512) : state (F := Ideal) (Scores.blk (W3 m ok) c 0 t) (Scores.blk (W3 m ok) c 1 t) (Scores.blk (W3 m ok) c 5 t)
    (Scores.blk (W3 m ok) c 6 t) (Scores.blk (W3 m ok) c 7 t) (Scores.blk (W3 m ok) c 8 t) (ix2 r j) = (args m c).v132 (ix2 (row1 t r) j) := by
  rw [state_read, v132_read]
  simp only [in1_0 m ok c t, in1_1 m ok c t, in1_5 m ok c t, in1_6 m ok c t, in1_7 m ok c t, in1_8 m ok c t, hx]

theorem gen_eq (l : Fin 3000) : gen (F := Ideal) (Scores.blk (W3 m ok) c 0 t) (Scores.blk (W3 m ok) c 1 t) (Scores.blk (W3 m ok) c 5 t)
    (Scores.blk (W3 m ok) c 6 t) (Scores.blk (W3 m ok) c 7 t) (Scores.blk (W3 m ok) c 8 t) (Scores.blk (W3 m ok) c 11 t)
    (Scores.blk (W3 m ok) c 12 t) (ix2 r l) = gnR (args m c) (row1 t r) l := by
  rw [gen_read, gnR_read]
  simp only [state_eq m ok c hx t r, in1_11 m ok c t, in1_12 m ok c t]

theorem copy_eq (j : Fin 128) : Scores.copy (F := Ideal) (state (F := Ideal) (Scores.blk (W3 m ok) c 0 t) (Scores.blk (W3 m ok) c 1 t) (Scores.blk (W3 m ok) c 5 t)
    (Scores.blk (W3 m ok) c 6 t) (Scores.blk (W3 m ok) c 7 t) (Scores.blk (W3 m ok) c 8 t)) (Scores.blk (W3 m ok) c 2 t) (Scores.blk (W3 m ok) c 3 t)
    (Scores.blk (W3 m ok) c 9 t) (Scores.blk (W3 m ok) c 10 t) (ix2 r j) = smR (args m c) (row1 t r) j := by
  rw [copy_read, smR_read]
  simp only [state_eq m ok c hx t r, in1_2 m ok c t, in1_3 m ok c t, in1_9 m ok c t, in1_10 m ok c t, mul_comm]

omit hx in
theorem words_eq (j : Fin 128) : words (Scores.blk (W3 m ok) c 4 t) (ix2 r j) = nkR (args m c) (row1 t r) j := by
  rw [words_read, in1_4]
  rfl

include hh h1 h17 h18

/-- One row of a block of the result. -/
theorem point1 (l : Fin 3400) : scoresOut (F := Ideal) (Scores.blk (W3 m ok) c 0 t) (Scores.blk (W3 m ok) c 1 t) (Scores.blk (W3 m ok) c 2 t)
    (Scores.blk (W3 m ok) c 3 t) (Scores.blk (W3 m ok) c 4 t) (Scores.blk (W3 m ok) c 5 t) (Scores.blk (W3 m ok) c 6 t) (Scores.blk (W3 m ok) c 7 t)
    (Scores.blk (W3 m ok) c 8 t) (Scores.blk (W3 m ok) c 9 t) (Scores.blk (W3 m ok) c 10 t) (Scores.blk (W3 m ok) c 11 t)
    (Scores.blk (W3 m ok) c 12 t) (ix3 r 0 l) = (args m c).v197 (ix3 (row1 t r) 0 l) := by
  rw [← row_eq _ _ _ _ r (args m c) (row1 t r) (gen_eq m ok c hx t r) (copy_eq m ok c hx t r) (words_eq m ok c t r)
    (fun j => (slot_read _ _ _ _ _ r _ j).trans (by
      rw [show (fun j => Scores.copy (F := Ideal) _ _ _ _ _ (ix2 r j)) = smR (args m c) (row1 t r) from funext (copy_eq m ok c hx t r),
        show (fun j => words _ (ix2 r j)) = nkR (args m c) (row1 t r) from funext (words_eq m ok c t r)]))
    (hh _) (gnR_isReal _ _ (h1 _) h17 h18) (smR_ne_top _ _ (h1 _)) l]
  unfold scoresOut
  generalize logScores (F := Ideal) _ _ _ _ = ls
  refine (congrFun (View.canon_cons_unit_zero (by funext a; fin_cases a <;> rfl) _ _ _) _).trans ?_
  pointwise [k1_pay1]
end

include hh h1 h17 h18

/-- The result array. -/
theorem out1 : (d1 m ok c).arrAt 13 cfg1.N = (args m c).v197 := by
  refine (d1 m ok c).arrAt_eq_of_covers 13 _ (by decide +kernel) fun t hf y => ?_
  blk_simp
  rw [Scores.after_13]
  obtain ⟨r, l, rfl⟩ : ∃ (r : Fin 16) (l : Fin 3400), y = ix3 r 0 l := ⟨y 0, y 2, by
    funext a
    fin_cases a
    · rfl
    · exact Fin.ext (by have h : (y 1).val < 1 := (y 1).isLt
                        show (y 1).val = 0
                        omega)
    · rfl⟩
  rw [point1 m ok c hx hh h1 h17 h18 t r l]
  refine congrArg (args m c).v197 ?_
  unfold row1
  blk_ext [(idx1 t).2.2]

end Cert.KernelIdeal.Run
-- ==== Proof.Value.Attend.lean ====
module

public import proofs.«01_k».proof.Proof.Value.Cell
public import proofs.«01_k».proof.Proof.KernelIdeal.Attn

/-! The three attentions, of the kernel's first call and of the reference. -/

@[expose] public section

noncomputable section

namespace Cert.Math
open Idealize.ShloMosaic

/-- A position's score: −∞ where it is masked. -/
def score (w : BitVec 32) (e h : Fin 512 → EReal) (W : Fin 512 → Fin 1024 → EReal) (ab v : Fin 512 → EReal) : EReal :=
  Scalar.select (IntOp.cmpi .eq w 0#32) ⊥
    (∑ j, Ideal.tanh (∑ k : Fin 512, e k * W j ⟨512 + k, by omega⟩ + (∑ k : Fin 512, h k * W j ⟨k, by omega⟩ + ab j)) * v j)

/-- The average of `c` by the softmax of the scores `s`. -/
def attend {n : ℕ} (s c : Fin n → EReal) : EReal :=
  Ideal.div (∑ x, Ideal.exp (s x - greatest s) * c x) (∑ x, Ideal.exp (s x - greatest s))

/-- The score from one product with the joined states. -/
theorem score_joined (w : BitVec 32) (e h : Fin 512 → EReal) (W : Fin 512 → Fin 1024 → EReal) (ab v : Fin 512 → EReal) (he : Fin 1024 → EReal)
    (h0 : ∀ k : Fin 512, he ⟨k, by omega⟩ = h k) (h1 : ∀ k : Fin 512, he ⟨512 + k, by omega⟩ = e k) :
    Scalar.select (IntOp.cmpi .eq w 0#32) ⊥ (∑ j, Ideal.tanh (∑ k, he k * W j k + ab j) * v j) = score w e h W ab v := by
  unfold score
  refine congrArg (Scalar.select _ _) (Finset.sum_congr rfl fun j _ => ?_)
  rw [sum_parts (a := 512) (b := 512) rfl]
  simp only [h0, h1]
  rw [add_comm (∑ k : Fin 512, h k * _), add_assoc]

theorem score_ne_top (w : BitVec 32) (e h : Fin 512 → EReal) (W : Fin 512 → Fin 1024 → EReal) (ab v : Fin 512 → EReal) (hv : ∀ j, IsReal (v j)) :
    score w e h W ab v ≠ ⊤ := by
  rw [score, select_eq]
  split
  · exact bot_ne_top
  · exact (isReal_sum _ _ fun j => (tanh_isReal _).mul (hv j)).2

theorem score_ne_bot (w : BitVec 32) (e h : Fin 512 → EReal) (W : Fin 512 → Fin 1024 → EReal) (ab v : Fin 512 → EReal) (hv : ∀ j, IsReal (v j))
    (hw : w ≠ 0#32) : score w e h W ab v ≠ ⊥ := by
  rw [score, select_eq, if_neg hw]
  exact (isReal_sum _ _ fun j => (tanh_isReal _).mul (hv j)).1

/-- The average, by weights divided one by one. -/
theorem attend_eq {n : ℕ} (s c : Fin n → EReal) (hs : ∀ i, s i ≠ ⊤) (hne : ∃ i, s i ≠ ⊥) :
    ∑ x, Ideal.div (Ideal.exp (s x - max ⊥ (greatest s))) (∑ y, Ideal.exp (s y - max ⊥ (greatest s))) * c x = attend s c := by
  rw [max_eq_right bot_le]
  exact (softmax_sum s c hs hne).symm

end Cert.Math

namespace Cert.KernelIdeal.Attn
open Cert.KernelIdeal Cert.KernelIdeal.Gen Cert.Math
open Cert.KernelIdeal.Scores (ofBits_neg named_neg)
open Idealize.ShloMosaic Idealize.ShloMosaic.TcCoe

variable (x1 : Vec Ideal S8x512 .f32) (x2 : Vec Ideal S8x256x512 .f32) (x3 : Vec Ideal S8x128x512 .f32) (x4 : Vec Ideal S8x64x512 .f32)
  (x5 : Vec Ideal S8x256x1 .i32) (x6 : Vec Ideal S8x128x1 .i32) (x7 : Vec Ideal S8x64x1 .i32) (x9 : Vec Ideal S1024x512 .f32)
  (x10 x11 : Vec Ideal S1x512 .f32) (r : Fin 8) (l : Fin 512)

/-- A position's score in the kernel, from its state and word. -/
def scoreK (w : BitVec 32) (e : Fin 512 → EReal) : EReal :=
  score w e (fun k => x1 (ix2 r k)) (fun j k => x9 (ix2 k j)) (fun j => x10 (ix2 0 j)) (fun j => x11 (ix2 0 j))

theorem wide_read : attWide (F := Ideal) x1 x2 x5 x9 x10 x11 (ix3 r 0 l) =
    attend (fun x => scoreK x1 x9 x10 x11 r (x5 (ix3 r x 0)) (fun k => x2 (ix3 r x k))) (fun x => x2 (ix3 r x l)) := by
  pointwise [attWide, k0_pay14, k0_pay13, k0_pay12, k0_pay11, lanes]
  rw [named_neg, ofBits_neg]
  rfl

theorem mid_read : attMid (F := Ideal) x1 x3 x6 x9 x10 x11 (ix3 r 0 l) =
    attend (fun x => scoreK x1 x9 x10 x11 r (x6 (ix3 r x 0)) (fun k => x3 (ix3 r x k))) (fun x => x3 (ix3 r x l)) := by
  pointwise [attMid, k0_pay15, k0_pay13, k0_pay12, k0_pay11, lanes]
  rw [named_neg, ofBits_neg]
  rfl

theorem narrow_read : attNarrow (F := Ideal) x1 x4 x7 x9 x10 x11 (ix3 r 0 l) =
    attend (fun x => scoreK x1 x9 x10 x11 r (x7 (ix3 r x 0)) (fun k => x4 (ix3 r x k))) (fun x => x4 (ix3 r x l)) := by
  pointwise [attNarrow, k0_pay1, k0_pay16, k0_pay17, k0_pay13, k0_pay12, k0_pay11, lanes]
  rw [named_neg, ofBits_neg]
  rfl

end Cert.KernelIdeal.Attn

namespace Cert.ReferenceIdeal.Rows
open Cert.ReferenceIdeal Cert.ReferenceIdeal.Read Cert.Math
open Idealize.ShloMosaic Idealize.ShloMosaic.TcCoe
open Cert.KernelIdeal.Scores (ofBits_neg)

variable (A : Args) (b : Fin 128) (hv : ∀ j, IsReal (A.x14 (ix2 0 j)))

/-- A position's score in the reference, from its state and word. -/
def scoreR (w : BitVec 32) (e : Fin 512 → EReal) : EReal :=
  score w e (fun k => A.x1 (ix3 0 b k)) (fun j k => A.x12 (ix2 j k)) (fun j => A.x13 (ix1 j)) (fun j => A.x14 (ix2 0 j))

include hv in
theorem scoreR_ne_top (w : BitVec 32) (e : Fin 512 → EReal) : scoreR A b w e ≠ ⊤ := score_ne_top _ _ _ _ _ _ hv

include hv in
theorem scoreR_ne_bot (w : BitVec 32) (e : Fin 512 → EReal) (hw : w ≠ 0#32) : scoreR A b w e ≠ ⊥ :=
  score_ne_bot _ _ _ _ _ _ hv hw

theorem v29_read (x : Fin 256) :
    val_main_v29 (F := Ideal) A.x1 A.x2 A.x6 A.x12 A.x13 A.x14 (ix3 b 0 x) = scoreR A b (A.x6 (ix2 b x)) (fun k => A.x2 (ix3 b x k)) := by
  unfold scoreR
  rw [← score_joined _ _ _ _ _ _ (fun k => val_main_v19 (F := Ideal) A.x1 A.x2 (ix3 b x k))
    (fun k => by pointwise [val_main_v19, val_main_v18, val_main_v17, val_main_v0]) (fun k => by pointwise [val_main_v19]), ← ofBits_neg]
  pointwise [val_main_v29, val_main_call0_v0, val_main_call0_v1, val_main_cst, val_main_v28, val_main_v27, val_main_v26, val_main_v25, val_main_v24, val_main_v23, val_main_v22, val_main_v21, val_main_v20, val_main_v10, val_main_v9, val_main_v8, val_main_c_1]
  rfl

include hv in
theorem v41_read (l : Fin 512) (hne : ∃ x : Fin 256, A.x6 (ix2 b x) ≠ 0#32) : A.v41 (ix3 b 0 l) =
    attend (fun x => scoreR A b (A.x6 (ix2 b x)) (fun k => A.x2 (ix3 b x k))) (fun x => A.x2 (ix3 b x l)) := by
  rw [← attend_eq _ _ (fun x => scoreR_ne_top A b hv _ _) (hne.imp fun x hx => scoreR_ne_bot A b hv _ _ hx)]
  simp only [← v29_read]
  unfold Args.v41 greatest
  rw [← ofBits_neg]
  pointwise [val_main_v41, val_main_v40, val_main_v39, val_main_v38, val_main_v37, val_main_v36, val_main_v35, val_main_v34, val_main_v33, val_main_v32, val_main_v31, val_main_v30, val_main_cst_4, val_main_cst_5, val_main_cst_6]

theorem v54_read (x : Fin 128) :
    val_main_v54 (F := Ideal) A.x1 A.x3 A.x7 A.x12 A.x13 A.x14 (ix3 b 0 x) = scoreR A b (A.x7 (ix2 b x)) (fun k => A.x3 (ix3 b x k)) := by
  unfold scoreR
  rw [← score_joined _ _ _ _ _ _ (fun k => val_main_v44 (F := Ideal) A.x1 A.x3 (ix3 b x k))
    (fun k => by pointwise [val_main_v44, val_main_v43, val_main_v42, val_main_v0]) (fun k => by pointwise [val_main_v44]), ← ofBits_neg]
  pointwise [val_main_v54, val_main_call1_v0, val_main_call1_v1, val_main_cst_7, val_main_v53, val_main_v52, val_main_v51, val_main_v50, val_main_v49, val_main_v48, val_main_v47, val_main_v46, val_main_v45, val_main_v13, val_main_v12, val_main_v11, val_main_c_2]
  rfl

include hv in
theorem v66_read (l : Fin 512) (hne : ∃ x : Fin 128, A.x7 (ix2 b x) ≠ 0#32) : A.v66 (ix3 b 0 l) =
    attend (fun x => scoreR A b (A.x7 (ix2 b x)) (fun k => A.x3 (ix3 b x k))) (fun x => A.x3 (ix3 b x l)) := by
  rw [← attend_eq _ _ (fun x => scoreR_ne_top A b hv _ _) (hne.imp fun x hx => scoreR_ne_bot A b hv _ _ hx)]
  simp only [← v54_read]
  unfold Args.v66 greatest
  rw [← ofBits_neg]
  pointwise [val_main_v66, val_main_v65, val_main_v64, val_main_v63, val_main_v62, val_main_v61, val_main_v60, val_main_v59, val_main_v58, val_main_v57, val_main_v56, val_main_v55, val_main_cst_8, val_main_cst_9, val_main_cst_10]

theorem v79_read (x : Fin 64) :
    val_main_v79 (F := Ideal) A.x1 A.x4 A.x8 A.x12 A.x13 A.x14 (ix3 b 0 x) = scoreR A b (A.x8 (ix2 b x)) (fun k => A.x4 (ix3 b x k)) := by
  unfold scoreR
  rw [← score_joined _ _ _ _ _ _ (fun k => val_main_v69 (F := Ideal) A.x1 A.x4 (ix3 b x k))
    (fun k => by pointwise [val_main_v69, val_main_v68, val_main_v67, val_main_v0]) (fun k => by pointwise [val_main_v69]), ← ofBits_neg]
  pointwise [val_main_v79, val_main_call2_v0, val_main_call2_v1, val_main_cst_11, val_main_v78, val_main_v77, val_main_v76, val_main_v75, val_main_v74, val_main_v73, val_main_v72, val_main_v71, val_main_v70, val_main_v16, val_main_v15, val_main_v14, val_main_c_3]
  rfl

include hv in
theorem v91_read (l : Fin 512) (hne : ∃ x : Fin 64, A.x8 (ix2 b x) ≠ 0#32) : A.v91 (ix3 b 0 l) =
    attend (fun x => scoreR A b (A.x8 (ix2 b x)) (fun k => A.x4 (ix3 b x k))) (fun x => A.x4 (ix3 b x l)) := by
  rw [← attend_eq _ _ (fun x => scoreR_ne_top A b hv _ _) (hne.imp fun x hx => scoreR_ne_bot A b hv _ _ hx)]
  simp only [← v79_read]
  unfold Args.v91 greatest
  rw [← ofBits_neg]
  pointwise [val_main_v91, val_main_v90, val_main_v89, val_main_v88, val_main_v87, val_main_v86, val_main_v85, val_main_v84, val_main_v83, val_main_v82, val_main_v81, val_main_v80, val_main_cst_12, val_main_cst_13, val_main_cst_14]

end Cert.ReferenceIdeal.Rows
-- ==== Proof.Value.Host0.lean ====
module

public import proofs.«01_k».proof.Proof.Value.Host1
public import proofs.«01_k».proof.Proof.Value.Attend

/-! The first call's input blocks, read from the arguments of the program. -/

@[expose] public section

noncomputable section

namespace Cert.KernelIdeal.Run
open Cert.KernelIdeal Cert.KernelIdeal.Gen
open Cert.ReferenceIdeal (Args)
open Idealize.ShloMosaic Idealize.ShloMosaic.TcCoe

variable (m : (ℓ : Loc nD τ sig) → Buf (Elt Ideal) ℓ) (ok : Ok m) (c : Dev nD)

theorem N0 : grid0.N = 16 := by decide +kernel

theorem bound0 (t : Fin grid0.N) (r : Fin 8) : t.val * 8 + r.val < 128 := by
  have h : t.val < 16 := lt_of_lt_of_eq t.isLt N0
  generalize t.val = n at h ⊢
  omega

/-- Row `r` of the batch's rows at grid point `t`. -/
def row0 (t : Fin cfg0.N) (r : Fin 8) : Fin 128 := ⟨t.val * 8 + r, bound0 t r⟩

/-- Which block each window holds. -/
theorem idx0 : ∀ t : Fin cfg0.N, (win0_1.index t = ![t.val, 0] ∧ win0_2.index t = ![t.val, 0, 0] ∧ win0_3.index t = ![t.val, 0, 0] ∧
    win0_4.index t = ![t.val, 0, 0] ∧ win0_5.index t = ![t.val, 0, 0] ∧ win0_6.index t = ![t.val, 0, 0] ∧ win0_7.index t = ![t.val, 0, 0] ∧
    win0_8.index t = ![t.val, 0, 0]) ∧ (win0_0.index t = ![0, 0] ∧ win0_9.index t = ![0, 0] ∧ win0_10.index t = ![0, 0] ∧
    win0_11.index t = ![0, 0] ∧ win0_12.index t = ![0, 0]) ∧ win0_13.index t = ![t.val, 0, 0] :=
  (by decide +kernel : ∀ t : Fin grid0.N, _)

section
variable (t : Fin cfg0.N) (r : Fin 8)

theorem in0_0 (y : Fin 128) : (Attn.blk (V1 m) c 0 t : Vec Ideal S128x1 .i32) (ix2 y 0) = (args m c).x0 (ix2 y 0) := by
  have e : (Attn.blk (V1 m) c 0 t : Vec Ideal S128x1 .i32) (ix2 y 0) = V1 m c main_arg0 (ix2 y 0) := by
    blk_ext [Attn.blk, (idx0 t).2.1.1]
  rw [e, V1_of m c main_arg0 (by decide)]
  rfl

theorem in0_1 (k : Fin 512) : (Attn.blk (V1 m) c 1 t : Vec Ideal S8x512 .f32) (ix2 r k) = (args m c).x1 (ix3 0 (row0 t r) k) := by
  have e : (Attn.blk (V1 m) c 1 t : Vec Ideal S8x512 .f32) (ix2 r k) = V1 m c main_v0 (ix2 (row0 t r) k) := by
    unfold row0
    blk_ext [Attn.blk, (idx0 t).1.1]
  rw [e]
  unfold V1
  entry_read
  pointwise
  rfl

theorem in0_2 (j : Fin 256) (k : Fin 512) : (Attn.blk (V1 m) c 2 t : Vec Ideal S8x256x512 .f32) (ix3 r j k) = (args m c).x2 (ix3 (row0 t r) j k) := by
  have e : (Attn.blk (V1 m) c 2 t : Vec Ideal S8x256x512 .f32) (ix3 r j k) = V1 m c main_arg2 (ix3 (row0 t r) j k) := by
    unfold row0
    blk_ext [Attn.blk, (idx0 t).1.2.1]
  rw [e, V1_of m c main_arg2 (by decide)]
  rfl

theorem in0_3 (j : Fin 128) (k : Fin 512) : (Attn.blk (V1 m) c 3 t : Vec Ideal S8x128x512 .f32) (ix3 r j k) = (args m c).x3 (ix3 (row0 t r) j k) := by
  have e : (Attn.blk (V1 m) c 3 t : Vec Ideal S8x128x512 .f32) (ix3 r j k) = V1 m c main_arg3 (ix3 (row0 t r) j k) := by
    unfold row0
    blk_ext [Attn.blk, (idx0 t).1.2.2.1]
  rw [e, V1_of m c main_arg3 (by decide)]
  rfl

theorem in0_4 (j : Fin 64) (k : Fin 512) : (Attn.blk (V1 m) c 4 t : Vec Ideal S8x64x512 .f32) (ix3 r j k) = (args m c).x4 (ix3 (row0 t r) j k) := by
  have e : (Attn.blk (V1 m) c 4 t : Vec Ideal S8x64x512 .f32) (ix3 r j k) = V1 m c main_arg4 (ix3 (row0 t r) j k) := by
    unfold row0
    blk_ext [Attn.blk, (idx0 t).1.2.2.2.1]
  rw [e, V1_of m c main_arg4 (by decide)]
  rfl

theorem in0_5 (j : Fin 256) : (Attn.blk (V1 m) c 5 t : Vec Ideal S8x256x1 .i32) (ix3 r j 0) = (args m c).x6 (ix2 (row0 t r) j) := by
  have e : (Attn.blk (V1 m) c 5 t : Vec Ideal S8x256x1 .i32) (ix3 r j 0) = V1 m c main_v1 (ix3 (row0 t r) j 0) := by
    unfold row0
    blk_ext [Attn.blk, (idx0 t).1.2.2.2.2.1]
  rw [e]
  unfold V1
  entry_read
  pointwise
  rfl

theorem in0_6 (j : Fin 128) : (Attn.blk (V1 m) c 6 t : Vec Ideal S8x128x1 .i32) (ix3 r j 0) = (args m c).x7 (ix2 (row0 t r) j) := by
  have e : (Attn.blk (V1 m) c 6 t : Vec Ideal S8x128x1 .i32) (ix3 r j 0) = V1 m c main_v2 (ix3 (row0 t r) j 0) := by
    unfold row0
    blk_ext [Attn.blk, (idx0 t).1.2.2.2.2.2.1]
  rw [e]
  unfold V1
  entry_read
  pointwise
  rfl

theorem in0_7 (j : Fin 64) : (Attn.blk (V1 m) c 7 t : Vec Ideal S8x64x1 .i32) (ix3 r j 0) = (args m c).x8 (ix2 (row0 t r) j) := by
  have e : (Attn.blk (V1 m) c 7 t : Vec Ideal S8x64x1 .i32) (ix3 r j 0) = V1 m c main_v3 (ix3 (row0 t r) j 0) := by
    unfold row0
    blk_ext [Attn.blk, (idx0 t).1.2.2.2.2.2.2.1]
  rw [e]
  unfold V1
  entry_read
  pointwise
  rfl

theorem in0_8 (k : Fin 32) : (Attn.blk (V1 m) c 8 t : Vec Ideal S8x1x32 .f32) (ix3 r 0 k) = (args m c).x5 (ix2 (row0 t r) k) := by
  have e : (Attn.blk (V1 m) c 8 t : Vec Ideal S8x1x32 .f32) (ix3 r 0 k) = V1 m c main_v4 (ix3 (row0 t r) 0 k) := by
    unfold row0
    blk_ext [Attn.blk, (idx0 t).1.2.2.2.2.2.2.2]
  rw [e]
  unfold V1
  entry_read
  pointwise
  rfl

theorem in0_9 (k : Fin 1024) (j : Fin 512) : (Attn.blk (V1 m) c 9 t : Vec Ideal S1024x512 .f32) (ix2 k j) = (args m c).x12 (ix2 j k) := by
  have e : (Attn.blk (V1 m) c 9 t : Vec Ideal S1024x512 .f32) (ix2 k j) = V1 m c main_v5 (ix2 k j) := by
    blk_ext [Attn.blk, (idx0 t).2.1.2.1]
  rw [e]
  unfold V1
  entry_read
  pointwise
  rfl

theorem in0_10 (j : Fin 512) : (Attn.blk (V1 m) c 10 t : Vec Ideal S1x512 .f32) (ix2 0 j) = (args m c).x13 (ix1 j) := by
  have e : (Attn.blk (V1 m) c 10 t : Vec Ideal S1x512 .f32) (ix2 0 j) = V1 m c main_v6 (ix2 0 j) := by
    blk_ext [Attn.blk, (idx0 t).2.1.2.2.1]
  rw [e]
  unfold V1
  entry_read
  pointwise
  rfl

theorem in0_11 (j : Fin 512) : (Attn.blk (V1 m) c 11 t : Vec Ideal S1x512 .f32) (ix2 0 j) = (args m c).x14 (ix2 0 j) := by
  have e : (Attn.blk (V1 m) c 11 t : Vec Ideal S1x512 .f32) (ix2 0 j) = V1 m c main_arg14 (ix2 0 j) := by
    blk_ext [Attn.blk, (idx0 t).2.1.2.2.2.1]
  rw [e, V1_of m c main_arg14 (by decide)]
  rfl

theorem in0_12 (l : Fin 3000) (j : Fin 512) : (Attn.blk (V1 m) c 12 t : Vec Ideal S3000x512 .f32) (ix2 l j) = (args m c).x11 (ix2 l j) := by
  have e : (Attn.blk (V1 m) c 12 t : Vec Ideal S3000x512 .f32) (ix2 l j) = V1 m c main_arg11 (ix2 l j) := by
    blk_ext [Attn.blk, (idx0 t).2.1.2.2.2.2]
  rw [e, V1_of m c main_arg11 (by decide)]
  rfl

end

end Cert.KernelIdeal.Run
-- ==== Proof.Value.Embed.lean ====
module

public import proofs.«01_k».proof.Proof.Value.Host0

/-! The embedding rows: the reference gathers them, the kernel copies them one by one. -/

@[expose] public section

noncomputable section

namespace Cert.ReferenceIdeal.Rows
open Cert.ReferenceIdeal Cert.ReferenceIdeal.Gen Cert.ReferenceIdeal.Read Cert.Math
open Idealize.ShloMosaic Idealize.ShloMosaic.TcCoe

/-- The gathered row of a signed word that names one. -/
theorem gather_row (x : Vec Ideal S3000x512 .f32) (idx : IVec S128x1x1 32) (b : Fin 128) (l : Fin 512) (n : Fin 3000)
    (h : (idx (ix3 b 0 0)).toInt.toNat = n) :
    Host.gather gather_S3000x512_S128x1x1_S128x1x512_2_0_n_n_0_2_1512 x idx (ix3 b 0 l) = x (ix2 n l) := by
  unfold Host.gather
  refine congrArg x ?_
  funext a
  refine Fin.ext ?_
  show GatherDims.start _ _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S3000x512_S128x1x1_S128x1x512_2_0_n_n_0_2_1512.startIndexMap from List.mem_singleton.mpr rfl)]
    have hsi : gather_S3000x512_S128x1x1_S128x1x512_2_0_n_n_0_2_1512.siIdx (ix3 b 0 l)
        ⟨List.idxOf (0 : Fin 2) gather_S3000x512_S128x1x1_S128x1x512_2_0_n_n_0_2_1512.startIndexMap,
          List.idxOf_lt_length_iff.2 (List.mem_singleton.mpr rfl)⟩ = ix3 b 0 0 := by
      funext d; refine Fin.ext ?_
      match d with
      | ⟨0, _⟩ => rfl
      | ⟨1, _⟩ => rfl
      | ⟨2, _⟩ => rfl
    rw [hsi, h]
    show min n.val 2999 = n.val
    omega
  · unfold GatherDims.start
    rw [dif_neg (by decide)]
    simp only [Nat.zero_add]
    unfold GatherDims.offCoord
    rw [dif_pos (by decide)]
    rfl

/-- The embedding row of a row of the batch. -/
theorem v7_read (A : Args) (b : Fin 128) (l : Fin 512)
    (h : (0#32).sle (A.x0 (ix2 b 0)) = true ∧ (A.x0 (ix2 b 0)).slt 3000#32 = true) (hl : (A.x0 (ix2 b 0)).toNat < 3000) :
    A.v7 (ix3 b 0 l) = A.x11 (ix2 ⟨(A.x0 (ix2 b 0)).toNat, hl⟩ l) := by
  refine gather_row _ _ b l _ ?_
  have e : val_main_v6 (F := Ideal) A.x0 (ix3 b 0 0) = A.x0 (ix2 b 0) := by
    have e0 : val_main_v6 (F := Ideal) A.x0 (ix3 b 0 0) = Scalar.select (IntOp.cmpi .slt (A.x0 (ix2 b 0)) 0#32)
        (IntOp.addi (A.x0 (ix2 b 0)) 3000#32) (A.x0 (ix2 b 0)) := by
      pointwise [val_main_v6, val_main_v5, val_main_v4, val_main_v3, val_main_v2, val_main_v1, val_main_c, val_main_c_0]
    rw [e0]
    generalize A.x0 (ix2 b 0) = w at h ⊢
    have h0 : w.slt 0#32 = false := by
      have := h.1
      simp only [BitVec.sle, BitVec.slt, decide_eq_true_eq, decide_eq_false_iff_not] at this ⊢
      omega
    simp only [Scalar.select, IntOp.cmpi, h0]
    rfl
  rw [e]
  generalize A.x0 (ix2 b 0) = w at h hl ⊢
  show w.toInt.toNat = w.toNat
  have := hl
  simp only [BitVec.toInt]
  omega

end Cert.ReferenceIdeal.Rows

namespace Cert.KernelIdeal.Run
open Cert.KernelIdeal Cert.KernelIdeal.Gen Cert.KernelIdeal.Attn
open Cert.ReferenceIdeal (Args)
open Idealize.ShloMosaic Idealize.ShloMosaic.TcCoe

/-- A word of the column. -/
theorem word_read (w : Vec Ideal S128x1 .i32) (off : Fin 2 → ℕ) (h : ∀ a, off a + S1x1.size a ≤ S128x1.size a) (b : Fin 128)
    (e : off = ![b.val, 0]) : word w off h = w (ix2 b 0) := by
  subst e
  refine congrArg w ?_
  funext a
  refine Fin.ext ?_
  fin_cases a
  · show b.val + 0 * 1 = b.val
    omega
  · rfl

/-- A lane of the row a word names. -/
theorem embed_read (x : Vec Ideal S3000x512 .f32) (v : BitVec 32) (hv : k0_chk1 v) (l : Fin 512) (n : Fin 3000) (e : v.toNat = n) :
    k0_pay2 (F := Ideal) (row x v hv) (ix3 0 0 l) = x (ix2 n l) := by
  pointwise [k0_pay2]
  refine congrArg x ?_
  funext a
  refine Fin.ext ?_
  fin_cases a
  · show (Scalar.indexCast v).toNat + 0 * 1 = n.val
    simp only [Scalar.indexCast]
    omega
  · show 0 + 1 * l.val = l.val
    omega

/-- Where the eight words of a grid point lie. -/
theorem offs : ∀ t : Fin grid0.N, (k0_off1 (grid0.coords t) = ![t.val * 8 + 0, 0] ∧ k0_off3 (grid0.coords t) = ![t.val * 8 + 1, 0] ∧
    k0_off5 (grid0.coords t) = ![t.val * 8 + 2, 0] ∧ k0_off7 (grid0.coords t) = ![t.val * 8 + 3, 0]) ∧
    k0_off9 (grid0.coords t) = ![t.val * 8 + 4, 0] ∧ k0_off11 (grid0.coords t) = ![t.val * 8 + 5, 0] ∧
    k0_off13 (grid0.coords t) = ![t.val * 8 + 6, 0] ∧ k0_off15 (grid0.coords t) = ![t.val * 8 + 7, 0] := by
  decide +kernel

end Cert.KernelIdeal.Run
-- ==== Proof.Value.Out0.lean ====
module

public import proofs.«01_k».proof.Proof.Value.Embed

/-! The first call's result array is the reference's cell input. -/

@[expose] public section

noncomputable section

namespace Cert.ReferenceIdeal.Rows
open Cert.ReferenceIdeal Cert.ReferenceIdeal.Read
open Idealize.ShloMosaic Idealize.ShloMosaic.TcCoe

variable (A : Args) (b : Fin 128)

theorem in_emb (l : Fin 512) : A.v93 (ix3 b 0 ⟨0 + l, by omega⟩) = A.v7 (ix3 b 0 l) := by
  rw [show (⟨0 + l.val, by omega⟩ : Fin 2080) = ⟨l.val, by omega⟩ from Fin.ext (Nat.zero_add _)]
  unfold Args.v93 Args.v7
  pointwise [val_main_v93]

theorem in_wide (l : Fin 512) : A.v93 (ix3 b 0 ⟨512 + l, by omega⟩) = A.v41 (ix3 b 0 l) := by
  unfold Args.v93 Args.v41
  pointwise [val_main_v93]

theorem in_mid (l : Fin 512) : A.v93 (ix3 b 0 ⟨1024 + l, by omega⟩) = A.v66 (ix3 b 0 l) := by
  unfold Args.v93
  pointwise [val_main_v93]
  rw [dif_neg (show ¬ (1024 + l.val < 512) by omega), dif_neg (show ¬ (1024 + l.val - 512 < 512) by omega), dif_pos (show 1024 + l.val - 512 - 512 < 512 by omega)]
  exact congrArg (fun k => A.v66 (ix3 b 0 k)) (Fin.ext (show 1024 + l.val - 512 - 512 = l.val by omega))

theorem in_narrow (l : Fin 512) : A.v93 (ix3 b 0 ⟨1536 + l, by omega⟩) = A.v91 (ix3 b 0 l) := by
  unfold Args.v93
  pointwise [val_main_v93]
  rw [dif_neg (show ¬ (1536 + l.val < 512) by omega), dif_neg (show ¬ (1536 + l.val - 512 < 512) by omega), dif_neg (show ¬ (1536 + l.val - 512 - 512 < 512) by omega), dif_pos (show 1536 + l.val - 512 - 512 - 512 < 512 by omega)]
  exact congrArg (fun k => A.v91 (ix3 b 0 k)) (Fin.ext (show 1536 + l.val - 512 - 512 - 512 = l.val by omega))

theorem in_ptr (l : Fin 32) : A.v93 (ix3 b 0 ⟨2048 + l, by omega⟩) = A.x5 (ix2 b l) := by
  unfold Args.v93
  pointwise [val_main_v93, val_main_v92]
  rw [dif_neg (show ¬ (2048 + l.val < 512) by omega), dif_neg (show ¬ (2048 + l.val - 512 < 512) by omega), dif_neg (show ¬ (2048 + l.val - 512 - 512 < 512) by omega), dif_neg (show ¬ (2048 + l.val - 512 - 512 - 512 < 512) by omega)]
  exact congrArg (fun k => A.x5 (ix2 b k)) (Fin.ext (show 2048 + l.val - 512 - 512 - 512 - 512 = l.val by omega))

end Cert.ReferenceIdeal.Rows

namespace Cert.KernelIdeal.Run
open Cert.KernelIdeal Cert.KernelIdeal.Gen Cert.KernelIdeal.Attn Cert.Math
open Cert.ReferenceIdeal (Args)
open Cert.ReferenceIdeal.Rows
open Idealize.ShloMosaic Idealize.ShloMosaic.TcCoe

theorem exists_ix3 {a n : ℕ} (x : (⟨3, ![a, 1, n]⟩ : Shape).Idx) : ∃ (r : Fin a) (l : Fin n), x = ix3 r 0 l := ⟨x 0, x 2, by
  funext d
  fin_cases d
  · rfl
  · exact Fin.ext (by have h : (x 1).val < 1 := (x 1).isLt
                      show (x 1).val = 0
                      omega)
  · rfl⟩

/-- A stretch of lanes of a stretch of rows of the block. -/
theorem emb_at (q o a n : ℕ) (h : ∀ d, (![q, 0, o] : Fin 3 → ℕ) d + (![a, 1, n] : Fin 3 → ℕ) d ≤ S8x1x2080.size d) (r : Fin a) (l : Fin n)
    (r' : Fin 8) (l' : Fin 2080) (hr : q + r.val = r'.val) (hl : o + l.val = l'.val) :
    (Rect.unit (s := S8x1x2080) ![q, 0, o] ![a, 1, n] h).emb (ix3 r 0 l) = ix3 r' 0 l' := by
  funext d
  refine Fin.ext ?_
  fin_cases d
  · show q + 1 * r.val = r'.val
    omega
  · rfl
  · show o + 1 * l.val = l'.val
    omega

variable (m : (ℓ : Loc nD τ sig) → Buf (Elt Ideal) ℓ) (ok : Ok m) (c : Dev nD)
  (hw : ∀ b : Fin 128, (0#32).sle ((args m c).x0 (ix2 b 0)) = true ∧ ((args m c).x0 (ix2 b 0)).slt 3000#32 = true)
  (hv : ∀ j : Fin 512, IsReal ((args m c).x14 (ix2 0 j)))
  (h6 : ∀ b, ∃ x : Fin 256, (args m c).x6 (ix2 b x) ≠ 0#32) (h7 : ∀ b, ∃ x : Fin 128, (args m c).x7 (ix2 b x) ≠ 0#32)
  (h8 : ∀ b, ∃ x : Fin 64, (args m c).x8 (ix2 b x) ≠ 0#32)

section
variable (t : Fin cfg0.N)

/-- The cell input's block at a grid point. -/
def input0 (y : S8x1x2080.Idx) : EReal := (args m c).v93 (ix3 (row0 t (y 0)) 0 (y 2))

include hv in
theorem wide_eq (h6 : ∀ b, ∃ x : Fin 256, (args m c).x6 (ix2 b x) ≠ 0#32) (r : Fin 8) (l : Fin 512) :
    attWide (F := Ideal) (blk (V1 m) c 1 t) (blk (V1 m) c 2 t) (blk (V1 m) c 5 t) (blk (V1 m) c 9 t) (blk (V1 m) c 10 t) (blk (V1 m) c 11 t) (ix3 r 0 l) =
      (args m c).v41 (ix3 (row0 t r) 0 l) := by
  rw [wide_read, v41_read _ _ hv _ (h6 _)]
  unfold scoreK scoreR
  simp only [in0_1 m c t, in0_2 m c t, in0_5 m c t, in0_9 m c t, in0_10 m c t, in0_11 m c t]

include hv in
theorem mid_eq (h7 : ∀ b, ∃ x : Fin 128, (args m c).x7 (ix2 b x) ≠ 0#32) (r : Fin 8) (l : Fin 512) :
    attMid (F := Ideal) (blk (V1 m) c 1 t) (blk (V1 m) c 3 t) (blk (V1 m) c 6 t) (blk (V1 m) c 9 t) (blk (V1 m) c 10 t) (blk (V1 m) c 11 t) (ix3 r 0 l) =
      (args m c).v66 (ix3 (row0 t r) 0 l) := by
  rw [mid_read, v66_read _ _ hv _ (h7 _)]
  unfold scoreK scoreR
  simp only [in0_1 m c t, in0_3 m c t, in0_6 m c t, in0_9 m c t, in0_10 m c t, in0_11 m c t]

include hv in
theorem narrow_eq (h8 : ∀ b, ∃ x : Fin 64, (args m c).x8 (ix2 b x) ≠ 0#32) (r : Fin 8) (l : Fin 512) :
    attNarrow (F := Ideal) (blk (V1 m) c 1 t) (blk (V1 m) c 4 t) (blk (V1 m) c 7 t) (blk (V1 m) c 9 t) (blk (V1 m) c 10 t) (blk (V1 m) c 11 t) (ix3 r 0 l) =
      (args m c).v91 (ix3 (row0 t r) 0 l) := by
  rw [narrow_read, v91_read _ _ hv _ (h8 _)]
  unfold scoreK scoreR
  simp only [in0_1 m c t, in0_4 m c t, in0_7 m c t, in0_9 m c t, in0_10 m c t, in0_11 m c t]

include hw in
theorem embed_eq (r : Fin 8) (l : Fin 512) (off : Fin 2 → ℕ) (h : ∀ a, off a + S1x1.size a ≤ S128x1.size a)
    (hk : k0_chk1 (word (F := Ideal) (blk (V1 m) c 0 t) off h)) (e : off = ![t.val * 8 + r.val, 0]) :
    k0_pay2 (F := Ideal) (row (blk (V1 m) c 12 t) (word (F := Ideal) (blk (V1 m) c 0 t) off h) hk) (ix3 0 0 l) = (args m c).v7 (ix3 (row0 t r) 0 l) := by
  have ew : word (F := Ideal) (blk (V1 m) c 0 t) off h = (args m c).x0 (ix2 (row0 t r) 0) :=
    (word_read _ off h (row0 t r) e).trans (in0_0 m c t _)
  have hl : ((args m c).x0 (ix2 (row0 t r) 0)).toNat < 3000 := by
    have hb := hw (row0 t r)
    generalize (args m c).x0 (ix2 (row0 t r) 0) = v at hb ⊢
    obtain ⟨hge, hlt⟩ := hb
    simp only [BitVec.sle, BitVec.slt, decide_eq_true_eq, BitVec.toInt, BitVec.toNat_ofNat] at hge hlt
    omega
  rw [v7_read _ _ _ (hw _) hl, embed_read _ _ hk l ⟨_, hl⟩ (congrArg BitVec.toNat ew), in0_12]

include hw in
/-- A row's piece of the block. -/
theorem embed_piece (r : Fin 8) (off : Fin 2 → ℕ) (h : ∀ a, off a + S1x1.size a ≤ S128x1.size a)
    (hk : k0_chk1 (word (F := Ideal) (blk (V1 m) c 0 t) off h)) (e : off = ![t.val * 8 + r.val, 0])
    (hi : ∀ d, (![r.val, 0, 0] : Fin 3 → ℕ) d + (![1, 1, 512] : Fin 3 → ℕ) d ≤ S8x1x2080.size d) (x : S1x1x512.Idx) :
    k0_pay2 (F := Ideal) (row (blk (V1 m) c 12 t) (word (F := Ideal) (blk (V1 m) c 0 t) off h) hk) x =
      input0 m c t ((Rect.unit (s := S8x1x2080) ![r.val, 0, 0] ![1, 1, 512] hi).emb x) := by
  obtain ⟨z, l, rfl⟩ := exists_ix3 x
  obtain rfl : z = 0 := Subsingleton.elim _ _
  rw [embed_eq m c hw t r l off h hk e, ← in_emb, emb_at r.val 0 1 512 hi 0 l r ⟨0 + l, by omega⟩ rfl rfl]
  rfl

include hw hv h6 h7 h8 in
/-- The block the body leaves. -/
theorem point0 (y : S8x1x2080.Idx) : (dat (V1 m) ok c).after 13 t y = input0 m c t y := by
  rw [after_13]
  unfold attnOut
  refine View.canon_apply_of_pieces (Val := Elt Ideal) (e := .f32) (input0 m c t) _ ?_ y (cover _ _ _ _ _ _ _ _ _ _ _ _ y)
  simp only [List.forall_mem_cons]
  obtain ⟨⟨o0, o1, o2, o3⟩, o4, o5, o6, o7⟩ := offs t
  refine ⟨fun x => ?_, fun x => ?_, fun x => ?_, fun x => ?_, embed_piece m c hw t 7 _ _ _ o7 _, embed_piece m c hw t 6 _ _ _ o6 _,
    embed_piece m c hw t 5 _ _ _ o5 _, embed_piece m c hw t 4 _ _ _ o4 _, embed_piece m c hw t 3 _ _ _ o3 _,
    embed_piece m c hw t 2 _ _ _ o2 _, embed_piece m c hw t 1 _ _ _ o1 _, embed_piece m c hw t 0 _ _ _ o0 _, by simp⟩
  · obtain ⟨r, l, rfl⟩ := exists_ix3 x
    refine (narrow_eq m c hv t h8 r l).trans ?_
    rw [← in_narrow]
    exact congrArg (input0 m c t) (emb_at 0 1536 8 512 _ r l r ⟨1536 + l, by omega⟩ (Nat.zero_add _) rfl).symm
  · obtain ⟨r, l, rfl⟩ := exists_ix3 x
    refine (mid_eq m c hv t h7 r l).trans ?_
    rw [← in_mid]
    exact congrArg (input0 m c t) (emb_at 0 1024 8 512 _ r l r ⟨1024 + l, by omega⟩ (Nat.zero_add _) rfl).symm
  · obtain ⟨r, l, rfl⟩ := exists_ix3 x
    refine (wide_eq m c hv t h6 r l).trans ?_
    rw [← in_wide]
    exact congrArg (input0 m c t) (emb_at 0 512 8 512 _ r l r ⟨512 + l, by omega⟩ (Nat.zero_add _) rfl).symm
  · obtain ⟨r, l, rfl⟩ := exists_ix3 x
    have e : k0_pay10 (F := Ideal) (View.ld (blk (V1 m) c 8 t : Vec Ideal S8x1x32 .f32) (Rect.unit (s := S8x1x32) ![0, 0, 0] S8x1x32.size inb_S8x1x32_S8x1x32_0_0_0)) (ix3 r 0 l) = (args m c).x5 (ix2 (row0 t r) l) := by
      pointwise [k0_pay10]
      exact in0_8 m c t r l
    refine e.trans ?_
    rw [← in_ptr]
    exact congrArg (input0 m c t) (emb_at 0 2048 8 32 _ r l r ⟨2048 + l, by omega⟩ (Nat.zero_add _) rfl).symm
end

include hw hv h6 h7 h8

/-- The result array. -/
theorem out0 : (d0 m ok c).arrAt 13 cfg0.N = (args m c).v93 := by
  refine (d0 m ok c).arrAt_eq_of_covers 13 _ (by decide +kernel) fun t hf y => ?_
  blk_simp
  rw [point0 m ok c hw hv h6 h7 h8 t y]
  obtain ⟨r, l, rfl⟩ := exists_ix3 y
  unfold input0
  refine congrArg (args m c).v93 ?_
  unfold row0
  blk_ext [(idx0 t).2.2]

end Cert.KernelIdeal.Run
-- ==== Proof.Value.Drawn.lean ====
module

public import proofs.«01_k».proof.Pre_as_drawn
public import proofs.«01_k».proof.Proof.Gen.Pre_as_drawn
public import proofs.«01_k».proof.Proof.Value.Out0

/-! What the precondition says of the arguments. -/

@[expose] public section

noncomputable section

namespace Cert.Drawn
open Cert.Math
open Cert.ReferenceIdeal (Args)
open Cert.ReferenceIdeal.Rows (nkR)
open Idealize.ShloMosaic Idealize.ShloMosaic.TcCoe

/-- The precondition's nine truth arrays, of the arguments. -/
abbrev truths (A : Args) := Cert.Pre_as_drawn.fn (F := Ideal) A.x0 A.x1 A.x2 A.x3 A.x4 A.x5 A.x6 A.x7 A.x8 A.x9 A.x10 A.x11 A.x12 A.x13 A.x14
  A.x15 A.x16 A.x17 A.x18 A.x19 A.x20 A.x21 A.x22

theorem bit_true (p : Bool) (h : BitVec.ofBool p = 1#1) : p = true := by
  cases p
  · exact absurd h (by decide)
  · rfl

/-- A disjunction of truth bits along axes that is one has a bit that is one. -/
theorem exists_of_any {s t u : Shape} {axes : List (Fin s.rank)} (x : s.Idx → BitVec 1) (init : u.Idx → BitVec 1) (h : s.ReducesTo axes t)
    (hu : 0 < u.numel) (j : t.Idx) (h0 : init (Shape.Idx.first hu) = 0#1) (e : Host.reduce IntOp.ori x init h hu j = 1#1) :
    ∃ i, h.drop i = j ∧ x i = 1#1 := by
  by_contra hn
  have hz : ∀ i, h.drop i = j → x i = 0#1 := fun i hi => by
    have : x i ≠ 1#1 := fun hx => hn ⟨i, hi, hx⟩
    generalize x i = v at this
    revert this
    revert v
    decide
  rw [Host.reduce_eq_foldl, h0] at e
  have key : ∀ L : List s.Idx, (∀ i ∈ L, x i = 0#1) → L.foldl (fun a i => IntOp.ori a (x i)) 0#1 = 0#1 := by
    intro L
    induction L with
    | nil => intro _; rfl
    | cons i L ih =>
      intro hL
      rw [List.foldl_cons, hL i (List.mem_cons_self ..)]
      exact ih fun k hk => hL k (List.mem_cons_of_mem _ hk)
  exact absurd ((key _ fun i hi => hz i (of_decide_eq_true (List.mem_filter.mp hi).2)).symm.trans e) (by decide)

variable (A : Args)

theorem words_in (h : (truths A).1 = fun _ => 1#1) (b : Fin 128) :
    (0#32).sle (A.x0 (ix2 b 0)) = true ∧ (A.x0 (ix2 b 0)).slt 3000#32 = true := by
  have e : IntOp.andi (BitVec.ofBool ((0#32).sle (A.x0 (ix2 b 0)))) (BitVec.ofBool ((A.x0 (ix2 b 0)).slt 3000#32)) = 1#1 := congrFun h (ix2 b 0)
  revert e
  cases (0#32).sle (A.x0 (ix2 b 0)) <;> cases (A.x0 (ix2 b 0)).slt 3000#32 <;> decide

/-- A sequence of the batch with a word that is not padding. -/
theorem exists_word {n : ℕ} (x : IVec ⟨2, ![128, n]⟩ 32) (z : IVec ⟨2, ![128, n]⟩ 32) (hz : ∀ i, z i = 0#32) {u : Shape} (init : u.Idx → BitVec 1)
    (h : (⟨2, ![128, n]⟩ : Shape).ReducesTo [1] ⟨1, ![128]⟩) (hu : 0 < u.numel) (h0 : init (Shape.Idx.first hu) = 0#1) (b : Fin 128)
    (e : Host.reduce IntOp.ori (cmpi .ne x z) init h hu (ix1 b) = 1#1) : ∃ k : Fin n, x (ix2 b k) ≠ 0#32 := by
  obtain ⟨i, hi, hx⟩ := exists_of_any _ _ _ _ _ h0 e
  have h1 : x i ≠ 0#32 := by
    have hx' : BitVec.ofBool (x i != z i) = 1#1 := hx
    have := bit_true _ hx'
    rw [hz] at this
    simpa using this
  have hb : i 0 = b := Fin.ext (congrArg (fun k : (⟨1, ![128]⟩ : Shape).Idx => (k 0).val) hi)
  refine ⟨i 1, fun hc => h1 (Eq.trans (congrArg x ?_) hc)⟩
  funext a
  fin_cases a
  · exact hb
  · rfl

theorem wide_word (h : (truths A).2.1 = fun _ => 1#1) (b : Fin 128) : ∃ k : Fin 256, A.x6 (ix2 b k) ≠ 0#32 :=
by
  have e := congrFun h (ix1 b)
  simp only [truths, Cert.Pre_as_drawn.fn, Cert.Pre_as_drawn.fn_part1, Cert.Pre_as_drawn.fn_part2] at e
  exact exists_word A.x6 _ (fun _ => rfl) _ _ _ rfl b e

theorem mid_word (h : (truths A).2.2.1 = fun _ => 1#1) (b : Fin 128) : ∃ k : Fin 128, A.x7 (ix2 b k) ≠ 0#32 :=
by
  have e := congrFun h (ix1 b)
  simp only [truths, Cert.Pre_as_drawn.fn, Cert.Pre_as_drawn.fn_part1, Cert.Pre_as_drawn.fn_part2] at e
  exact exists_word A.x7 _ (fun _ => rfl) _ _ _ rfl b e

theorem narrow_word (h : (truths A).2.2.2.1 = fun _ => 1#1) (b : Fin 128) : ∃ k : Fin 64, A.x8 (ix2 b k) ≠ 0#32 :=
by
  have e := congrFun h (ix1 b)
  simp only [truths, Cert.Pre_as_drawn.fn, Cert.Pre_as_drawn.fn_part1, Cert.Pre_as_drawn.fn_part2] at e
  exact exists_word A.x8 _ (fun _ => rfl) _ _ _ rfl b e

/-- A truth bit as a number. -/
theorem bit_val (a b : BitVec 32) : (FloatOps.uitofp FTy.f32 (IntOp.cmpi .eq a b) : Ideal .f32) = if a == b then 1 else 0 := by
  show (((BitVec.ofBool (a == b)).toNat : ℝ) : EReal) = _
  cases a == b <;> simp

theorem one_hot (h : (truths A).2.2.2.2.1 = fun _ => 1#1) (b t : Fin 128) (n : Fin 3128) :
    A.x10 (ix3 b t n) = if lane (nkR A b) t == BitVec.ofNat 32 n then 1 else 0 := by
  have e : (truths A).2.2.2.2.1 (ix3 b t n) = 1#1 := congrFun h _
  have e' : (truths A).2.2.2.2.1 (ix3 b t n) = Ideal.cmp .oeq (A.x10 (ix3 b t n)) (if lane (nkR A b) t == BitVec.ofNat 32 n then 1 else 0) := by
    unfold lane nkR
    pointwise [truths, Cert.Pre_as_drawn.fn, Cert.Pre_as_drawn.fn_part1, Cert.Pre_as_drawn.fn_part2]
    rw [bit_val]
  have e2 := e'.symm.trans e
  exact of_decide_eq_true (bit_true _ e2)

theorem ofBits_inf : Ideal.ofBits FTy.f32 2139095040#32 = ⊤ := by
  simp [Ideal.ofBits, Ideal.ieee]

theorem real_of_lt {x : EReal} (e : Ideal.cmp .olt (max x (-x)) (Ideal.ofBits FTy.f32 2139095040#32) = 1#1) : IsReal x := by
  rw [ofBits_inf] at e
  exact isReal_of_abs_lt (of_decide_eq_true (bit_true _ e))

theorem state_real (h : (truths A).2.2.2.2.2.1 = fun _ => 1#1) (b : Fin 128) (j : Fin 512) : IsReal (A.x1 (ix3 0 b j)) := by
  have e := congrFun h (ix3 0 b j)
  simp only [truths, Cert.Pre_as_drawn.fn, Cert.Pre_as_drawn.fn_part1, Cert.Pre_as_drawn.fn_part2] at e
  exact real_of_lt e

theorem proj_real (h : (truths A).2.2.2.2.2.2.1 = fun _ => 1#1) (j : Fin 512) : IsReal (A.x14 (ix2 0 j)) := by
  have e := congrFun h (ix2 0 j)
  simp only [truths, Cert.Pre_as_drawn.fn, Cert.Pre_as_drawn.fn_part1, Cert.Pre_as_drawn.fn_part2] at e
  exact real_of_lt e

theorem gen_real (h : (truths A).2.2.2.2.2.2.2.1 = fun _ => 1#1) (l : Fin 3000) (j : Fin 512) : IsReal (A.x17 (ix2 l j)) := by
  have e := congrFun h (ix2 l j)
  simp only [truths, Cert.Pre_as_drawn.fn, Cert.Pre_as_drawn.fn_part1, Cert.Pre_as_drawn.fn_part2] at e
  exact real_of_lt e

theorem bias_real (h : (truths A).2.2.2.2.2.2.2.2 = fun _ => 1#1) (l : Fin 3000) : IsReal (A.x18 (ix1 l)) := by
  have e := congrFun h (ix1 l)
  simp only [truths, Cert.Pre_as_drawn.fn, Cert.Pre_as_drawn.fn_part1, Cert.Pre_as_drawn.fn_part2] at e
  exact real_of_lt e

end Cert.Drawn
-- ==== Proof.Algebraic.lean ====
/-
  The two programs, read with their floats as extended reals, leave the same result.

  The kernel's first call fills its array with the reference's cell input (`out0`), its second call the result array with the
  reference's result (`out1`); what both need of the arguments is what the precondition says (`Cert.Drawn`).
-/
module

public import proofs.«01_k».proof.Defs
public import proofs.«01_k».proof.Proof.Frames
public import proofs.«01_k».proof.Proof.Value.Out1
public import proofs.«01_k».proof.Proof.Value.Drawn

@[expose] public section

noncomputable section

namespace Cert.KernelIdeal.Run
open Cert.KernelIdeal Cert.KernelIdeal.Gen
open Idealize.ShloMosaic Idealize.ShloMosaic.TcCoe

variable (m : (ℓ : Loc nD τ sig) → Buf (Elt Ideal) ℓ)

/-- The kernel's result array at the end of its run. -/
theorem result_eq (ok : Ok m) (c : Dev nD) (h : Cert.Pre_KernelIdeal_as_drawn m) : W4 m ok c main_v22 = (args m c).v197 := by
  obtain ⟨h0, h6, h7, h8, h10, h1, h14, h17, h18⟩ := h c
  rw [out1_self]
  exact out1 m ok c (fun b k => congrFun (out0 m ok c (Cert.Drawn.words_in (args m c) h0) (Cert.Drawn.proj_real (args m c) h14)
      (Cert.Drawn.wide_word (args m c) h6) (Cert.Drawn.mid_word (args m c) h7) (Cert.Drawn.narrow_word (args m c) h8)) _)
    (Cert.Drawn.one_hot (args m c) h10) (Cert.Drawn.state_real (args m c) h1) (Cert.Drawn.gen_real (args m c) h17)
    (Cert.Drawn.bias_real (args m c) h18)

end Cert.KernelIdeal.Run

namespace Cert.Proof
open Idealize.ShloMosaic Idealize.ShloMosaic.TcCoe Idealize.SL.Sem

/-- What the inputs are drawn as includes that the words lie in the vocabulary. -/
theorem ok_as_drawn
    (m : (ℓ : Loc Cert.KernelIdeal.nD Cert.KernelIdeal.τ Cert.KernelIdeal.sig) → Buf (Elt Ideal) ℓ)
    (h : Cert.Pre_KernelIdeal_as_drawn m) : Cert.KernelIdeal.Run.Ok m := by
  refine Cert.KernelIdeal.Run.ok_of_range m (fun c y => ?_)
  have e := congrFun (h c).1 y
  simp only [Cert.Pre_as_drawn.fn, Cert.Pre_as_drawn.fn_part1, Cert.Pre_as_drawn.fn_part2, andi, cmpi,
    broadcastInDim, constantI, IntOp.cmpi, andi_ofBool, ofBool_eq_one, Bool.and_eq_true] at e
  exact e

/-- The kernel at the ideal floats leaves its arguments and its counters, -/
theorem frame_KernelIdeal_as_drawn : Cert.quiescent_KernelIdeal_pre_as_drawn := fun m ρ h =>
  Cert.KernelIdeal.Run.frame m (ok_as_drawn m h) ρ

/-- and so does the reference. -/
theorem frame_ReferenceIdeal_as_drawn : Cert.quiescent_ReferenceIdeal_pre_as_drawn := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem algebraic : Cert.algebraic_KernelIdeal_ReferenceIdeal_pre_as_drawn := by
  intro m ρ m' ρ' hpre hagree
  have ok := ok_as_drawn m hpre
  refine ⟨fun c => (Cert.KernelIdeal.Run.args m c).v197, ?_, ?_⟩
  · refine (θ_run Cert.KernelIdeal.defs _ _).mono (fun r h c => ?_) (Cert.KernelIdeal.Run.run m ok ρ)
    refine ⟨(h.1 c _ (Cert.KernelIdeal.Run.mem_uc Cert.KernelIdeal.main_v22 (by decide))).trans (Cert.KernelIdeal.Run.result_eq m ok c hpre), ?_, ?_, ?_, ?_, ?_, ?_, ?_, ?_, ?_, ?_, ?_, ?_, ?_, ?_, ?_, ?_, ?_, ?_, ?_, ?_, ?_, ?_, ?_⟩ <;>
      exact (h.1 c _ (Cert.KernelIdeal.Run.mem_uc _ (by decide))).trans
        (Cert.KernelIdeal.Run.W4_of m ok c _ (by decide) (by decide) (by decide) (by decide))
  · refine (θ_run Cert.ReferenceIdeal.defs _ _).mono (fun r h c => ⟨(h c).1.trans ?_, (h c).2⟩) (Cert.ReferenceIdeal.Value.run (F := Ideal) m' ρ')
    refine (Cert.ReferenceIdeal.Read.val_main_v197_eq (fun b => m' (c, b))).trans ?_
    obtain ⟨e0, e1, e2, e3, e4, e5, e6, e7, e8, e9, e10, e11, e12, e13, e14, e15, e16, e17, e18, e19, e20, e21, e22⟩ := hagree c
    show Cert.ReferenceIdeal.Read.val_main_v197 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) = _
    rw [e0, e1, e2, e3, e4, e5, e6, e7, e8, e9, e10, e11, e12, e13, e14, e15, e16, e17, e18, e19, e20, e21, e22]
    rfl

end Cert.Proof

end
-- ==== Proof.lean ====
/-
  The proof of `Cert.Claim`: the kernel and the reference leave their arguments and their counters; the kernel's named mask
  is −∞ at the ideal floats; and there the kernel's result is the reference's.
-/
module

public import proofs.«01_k».proof.Defs
public import proofs.«01_k».proof.Proof.Frames
public import proofs.«01_k».proof.Proof.Algebraic

@[expose] public section

noncomputable section

namespace Cert.Proof

/-- Everything that is claimed. -/
theorem claim : Cert.Claim :=
  ⟨Cert.Kernel.Gen.facts, Cert.KernelIdeal.Gen.facts, Cert.ReferenceIdeal.Gen.facts, Cert.Pre_in_range.Gen.facts, Cert.Pre_as_drawn.Gen.facts,
    frame_Kernel, frame_KernelIdeal, frame_KernelIdeal_as_drawn, frame_ReferenceIdeal, frame_ReferenceIdeal_as_drawn, preserves, algebraic⟩

end Cert.Proof

end
